-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2304 : Shape := ⟨3, ![8, 2048, 2304]⟩
abbrev S8x2048x1 : Shape := ⟨3, ![8, 2048, 1]⟩
abbrev S2304x9984 : Shape := ⟨2, ![2304, 9984]⟩
abbrev S1x9984 : Shape := ⟨2, ![1, 9984]⟩
abbrev S8x2048x9984 : Shape := ⟨3, ![8, 2048, 9984]⟩
abbrev S8x1x2048 : Shape := ⟨3, ![8, 1, 2048]⟩
abbrev S16384x2304 : Shape := ⟨2, ![16384, 2304]⟩
abbrev S16384x9984 : Shape := ⟨2, ![16384, 9984]⟩
abbrev S1x1x256 : Shape := ⟨3, ![1, 1, 256]⟩
abbrev S256x2304 : Shape := ⟨2, ![256, 2304]⟩
abbrev S256x9984 : Shape := ⟨2, ![256, 9984]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S2304x768 : Shape := ⟨2, ![2304, 768]⟩
abbrev S256x768 : Shape := ⟨2, ![256, 768]⟩
abbrev S1x768 : Shape := ⟨2, ![1, 768]⟩
abbrev S128 : Shape := ⟨1, ![128]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x2304, .fp8e4m3⟩
  | .hbm, ⟨1, _⟩ => ⟨S8x2048x1, .f32⟩
  | .hbm, ⟨2, _⟩ => ⟨S2304x9984, .fp8e4m3⟩
  | .hbm, ⟨3, _⟩ => ⟨S1x9984, .f32⟩
  | .hbm, ⟨4, _⟩ => ⟨S8x2048x9984, .bf16⟩
  | .hbm, ⟨5, _⟩ => ⟨S8x1x2048, .f32⟩
  | .hbm, ⟨6, _⟩ => ⟨S16384x2304, .fp8e4m3⟩
  | .hbm, ⟨7, _⟩ => ⟨S16384x9984, .bf16⟩
  | .hbm, ⟨8, _⟩ => ⟨S16384x9984, .fp8e4m3⟩
  | .hbm, ⟨9, _⟩ => ⟨S8x1x2048, .f32⟩
  | .hbm, ⟨10, _⟩ => ⟨S8x2048x9984, .fp8e4m3⟩
  | .hbm, ⟨11, _⟩ => ⟨S8x2048x1, .f32⟩
  | .local _ .vmem, ⟨0, _⟩ => ⟨S1x1x256, .f32⟩
  | .local _ .vmem, ⟨1, _⟩ => ⟨S1x1x256, .f32⟩
  | .local _ .vmem, ⟨2, _⟩ => ⟨S256x2304, .fp8e4m3⟩
  | .local _ .vmem, ⟨3, _⟩ => ⟨S256x2304, .fp8e4m3⟩
  | .local _ .vmem, ⟨4, _⟩ => ⟨S2304x9984, .fp8e4m3⟩
  | .local _ .vmem, ⟨5, _⟩ => ⟨S1x9984, .f32⟩
  | .local _ .vmem, ⟨6, _⟩ => ⟨S256x9984, .bf16⟩
  | .local _ .vmem, ⟨7, _⟩ => ⟨S256x9984, .bf16⟩
  | .local _ .vmem, ⟨8, _⟩ => ⟨S256x9984, .fp8e4m3⟩
  | .local _ .vmem, ⟨9, _⟩ => ⟨S256x9984, .fp8e4m3⟩
  | .local _ .vmem, ⟨10, _⟩ => ⟨S1x1x256, .f32⟩
  | .local _ .vmem, ⟨11, _⟩ => ⟨S1x1x256, .f32⟩
  | .local _ .vmem, ⟨12, _⟩ => ⟨S256x9984, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2048x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x9984 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x9984 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x9984 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x9984 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x2304 : Shape := ⟨3, ![8, 2048, 2304]⟩
abbrev S8x2048x1 : Shape := ⟨3, ![8, 2048, 1]⟩
abbrev S2304x9984 : Shape := ⟨2, ![2304, 9984]⟩
abbrev S1x9984 : Shape := ⟨2, ![1, 9984]⟩
abbrev S8x2048x9984 : Shape := ⟨3, ![8, 2048, 9984]⟩
abbrev S1x1x9984 : Shape := ⟨3, ![1, 1, 9984]⟩
abbrev S8x2048 : Shape := ⟨2, ![8, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x2304, .fp8e4m3⟩
  | .hbm, ⟨1, _⟩ => ⟨S8x2048x1, .f32⟩
  | .hbm, ⟨2, _⟩ => ⟨S2304x9984, .fp8e4m3⟩
  | .hbm, ⟨3, _⟩ => ⟨S1x9984, .f32⟩
  | .hbm, ⟨4, _⟩ => ⟨S8x2048x9984, .bf16⟩
  | .hbm, ⟨5, _⟩ => ⟨S8x2048x9984, .fp8e4m3⟩
  | .hbm, ⟨6, _⟩ => ⟨S8x2048x1, .f32⟩
  | .local _ .vmem, ⟨0, _⟩ => ⟨S8x2048x2304, .fp8e4m3⟩
  | .local _ .vmem, ⟨1, _⟩ => ⟨S8x2048x1, .f32⟩
  | .local _ .vmem, ⟨2, _⟩ => ⟨S2304x9984, .fp8e4m3⟩
  | .local _ .vmem, ⟨3, _⟩ => ⟨S1x9984, .f32⟩
  | .local _ .vmem, ⟨4, _⟩ => ⟨S8x2048x9984, .bf16⟩
  | .local _ .vmem, ⟨5, _⟩ => ⟨S8x2048x9984, .fp8e4m3⟩
  | .local _ .vmem, ⟨6, _⟩ => ⟨S8x2048x1, .f32⟩
  | _, _ => ⟨S8x2048x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x9984 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9984 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x9984 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x9984 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.IdealFrame.RunC.lean ====
/- The body's run at the last grid point, as in Proof/Gen/KernelIdeal/Frame, with the printed parts rewritten one
   by one into their skeletons (a single `simp` over them exceeds its budget). -/
module

public import proofs.«01_k».proof.Proof.Gen.KernelIdeal.Frame.RunB

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 64), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) :
    Σ' (L5 : List (View.Piece (Elt F) S256x9984 .fp8e4m3)), Σ' (L6 : List (View.Piece (Elt F) S1x1x256 .f32)), Σ' (LS0 : List (View.Piece (Elt F) S256x9984 .f32)), Σ' (LS2 : List (View.Piece (Elt F) S256x128 .f32)), Σ' (LT1 : List (View.Piece (Elt F) S256x128 .f32)), { LT3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ owns (c : Thread nD τ) arg10 fullShare xs2 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ d, owns (c : Thread nD τ) arg9 fullShare d) ∗ owns (c : Thread nD τ) arg10 fullShare xs2 ∗ (∃ f, arg11.view.loc (c : Thread nD τ) ↦[arg11.view.set]{fullShare} arg11.view.writes (Elt F) f LT3)) -∗ K ⟨⟩))
          ⊢ wp frame (wpE (defs₀ (F := F)) Variants.none c none) E (cc0_linear_requant i arg1 harg1 arg2 harg2 arg3 harg3 arg4 harg4 arg5 harg5 arg6 harg6 arg7 harg7 arg8 harg8 arg9 harg9 arg10 harg10 arg11 harg11) K } := by
  refine ⟨?_, ?_, [], [], [], ?_, fun E K => ?run⟩
  case run =>
    simp only [cc0_linear_requant_eq_skeleton]; unfold cc0_linear_requant_skel
    rw [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg10.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg8.read_unread _
      iexact HS0
    isplitl [HS1]
    · iexists _, _; isplitr; swap; · iexact HS1
      ipureintro; rfl
    isplitl [HS2]
    · iexists _; isplitr; · ipureintro; exact harg10.read_unread _
      iexact HS2
    iexists _; iexact HS3

end Cert.KernelIdeal.Own

end
-- ==== Proof.IdealFrame.Frame.lean ====
/- The frame of `KernelIdeal`: the certificate of Proof/Gen/KernelIdeal/Frame.lean over the run of RunC.lean. -/
module

public import proofs.«01_k».proof.Proof.IdealFrame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : cond0_0 i) (hc1 : ¬cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) : Vec F S256x9984 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : cond0_0 i) (hc1 : ¬cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) : Vec F S1x1x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.1)

/-- Case A's pieces for scratch `arg8`, which the kernel carries between points, cover it: 13 pieces of `S256x768` tiling it (Lib/Ring.lean `Piece.tiledL`). -/
theorem scover0_A_0 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : cond0_0 i) (hc1 : ¬cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (y : S256x9984.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1 S256x768.size (by sl_kernel_rfl) y

/-- What case A leaves in scratch `arg8`: its pieces read back over junk. -/
def sout0_A_0 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : cond0_0 i) (hc1 : ¬cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) : Vec F S256x9984 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1)

/-- Case A's pieces for scratch `arg10`, which the kernel carries between points, cover it: 13 pieces of `S256x128` tiling it (Lib/Ring.lean `Piece.tiledL`). -/
theorem scover0_A_2 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : cond0_0 i) (hc1 : ¬cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.1 S256x128.size (by sl_kernel_rfl) y

/-- What case A leaves in scratch `arg10`: its pieces read back over junk. -/
def sout0_A_2 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : cond0_0 i) (hc1 : ¬cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.1)

/-- Case B's pieces for output 5 tile its block (13 stores of `S256x768`, checked by the kernel's evaluation: Lib/Ring.lean `Piece.tiledL`, linear in the pieces, through a loop's `@[irreducible]` trip theorem too), so they cover it. -/
theorem cover0_B_5 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) (y : S256x9984.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1 S256x768.size (by sl_kernel_rfl) y

/-- What case B leaves in output 5's staging buffer: its pieces read back over junk. -/
def out0_B_5 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S256x9984 .fp8e4m3 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1)

/-- Case B's pieces for output 6 tile its block (2 stores of `S1x1x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) (y : S1x1x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1 S1x1x128.size (by sl_kernel_rfl) y

/-- What case B leaves in output 6's staging buffer: its pieces read back over junk. -/
def out0_B_6 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S1x1x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1)

/-- Case B's pieces for scratch `arg8`, which the kernel carries between points, cover it: 13 pieces of `S256x768` tiling it (Lib/Ring.lean `Piece.tiledL`). -/
theorem scover0_B_0 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) (y : S256x9984.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.1 S256x768.size (by sl_kernel_rfl) y

/-- What case B leaves in scratch `arg8`: its pieces read back over junk. -/
def sout0_B_0 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S256x9984 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.1)

/-- Case B's pieces for scratch `arg10`, which the kernel carries between points, cover it: 13 pieces of `S256x128` tiling it (Lib/Ring.lean `Piece.tiledL`). -/
theorem scover0_B_2 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) (y : S256x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.2.1 S256x128.size (by sl_kernel_rfl) y

/-- What case B leaves in scratch `arg10`: its pieces read back over junk. -/
def sout0_B_2 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : cond0_1 i) (hc2 : ¬cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S256x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.2.1)

/-- Case C's pieces for output 5 tile its block (13 stores of `S256x768`, checked by the kernel's evaluation: Lib/Ring.lean `Piece.tiledL`, linear in the pieces, through a loop's `@[irreducible]` trip theorem too), so they cover it. -/
theorem cover0_C_5 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) (y : S256x9984.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1 S256x768.size (by sl_kernel_rfl) y

/-- What case C leaves in output 5's staging buffer: its pieces read back over junk. -/
def out0_C_5 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S256x9984 .fp8e4m3 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1)

/-- Case C's pieces for output 6 tile its block (2 stores of `S1x1x128`, checked by the kernel's evaluation: Lib/Ring.lean `Piece.tiledL`, linear in the pieces, through a loop's `@[irreducible]` trip theorem too), so they cover it. -/
theorem cover0_C_6 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) (y : S1x1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1 S1x1x128.size (by sl_kernel_rfl) y

/-- What case C leaves in output 6's staging buffer: its pieces read back over junk. -/
def out0_C_6 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S1x1x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1)

/-- Case C stores nothing into scratch `arg8`: it holds what the point before left. -/
def sout0_C_0 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S256x9984 .f32 := xs0

/-- Case C stores nothing into scratch `arg10`: it holds what the point before left. -/
def sout0_C_2 (c : Dev nD) (i : grid0.Coords) (arg1 : Memref sig .tc .vmem S1x1x256 .f32) (harg1 : arg1.IsWhole) (arg2 : Memref sig .tc .vmem S256x2304 .fp8e4m3) (harg2 : arg2.IsWhole) (arg3 : Memref sig .tc .vmem S2304x9984 .fp8e4m3) (harg3 : arg3.IsWhole) (arg4 : Memref sig .tc .vmem S1x9984 .f32) (harg4 : arg4.IsWhole) (arg5 : Memref sig .tc .vmem S256x9984 .bf16) (harg5 : arg5.IsWhole) (arg6 : Memref sig .tc .vmem S256x9984 .fp8e4m3) (harg6 : arg6.IsWhole) (arg7 : Memref sig .tc .vmem S1x1x256 .f32) (harg7 : arg7.IsWhole) (arg8 : Memref sig .tc .vmem S256x9984 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (hc0 : ¬cond0_0 i) (hc1 : ¬cond0_1 i) (hc2 : cond0_2 i)
    (x0 : Vec F S1x1x256 .f32) (x1 : Vec F S256x2304 .fp8e4m3) (x2 : Vec F S2304x9984 .fp8e4m3) (x3 : Vec F S1x9984 .f32) (x4 : Vec F S256x9984 .bf16) (xs0 : Vec F S256x9984 .f32) (xs2 : Vec F S256x128 .f32) : Vec F S256x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x9984 .fp8e4m3 × Vec F S1x1x256 .f32 × Vec F S256x9984 .f32 × Vec F S256x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 65 = 0 then
      if h1 : (1 ≤ (n + 1) % 65 ∧ (n + 1) % 65 ≤ 63) then
        False.elim (by have hN : n + 1 < 65 := lt_of_lt_of_eq hn (show cfg0.N = 65 from N_0); omega)
      else
        if h2 : (n + 1) % 65 = 64 then
          False.elim (by have hN : n + 1 < 65 := lt_of_lt_of_eq hn (show cfg0.N = 65 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (1 ≤ (n + 1) % 65 ∧ (n + 1) % 65 ≤ 63) then
        if h2 : (n + 1) % 65 = 64 then
          False.elim (by have hN : n + 1 < 65 := lt_of_lt_of_eq hn (show cfg0.N = 65 from N_0); omega)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        if h2 : (n + 1) % 65 = 64 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
        else
          False.elim (by have hN : n + 1 < 65 := lt_of_lt_of_eq hn (show cfg0.N = 65 from N_0); omega)

/-- `outsAt0` at a point of case A: that case's contents. -/
theorem outsAt0_A (c : Dev nD) (t : Fin cfg0.N) (h0 : t.val % 65 = 0) (h1 : ¬(1 ≤ t.val % 65 ∧ t.val % 65 ≤ 63)) (h2 : ¬t.val % 65 = 64) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 65 = 0) (h1 : (1 ≤ t.val % 65 ∧ t.val % 65 ≤ 63)) (h2 : ¬t.val % 65 = 64) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 65 = 0) (h1 : ¬(1 ≤ t.val % 65 ∧ t.val % 65 ≤ 63)) (h2 : t.val % 65 = 64) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ (∃ d, owns (c : Thread nD τ) scM0_1 fullShare d) ∗ owns (c : Thread nD τ) scM0_2 fullShare ((outsAt0 m c n hn).2.2.2) ∗ (∃ d, owns (c : Thread nD τ) scM0_3 fullShare d)) ∗ (∃ r, prngReg c r))

/-- Before the first step the scratch buffers hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, owns (c : Thread nD τ) scM0_1 fullShare d) ∗ owns (c : Thread nD τ) scM0_2 fullShare ((outsAt0 m c n hn).2.2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, owns (c : Thread nD τ) scM0_1 fullShare d) ∗ owns (c : Thread nD τ) scM0_2 fullShare ((outsAt0 m c (n - 1) (by omega)).2.2.2) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
/-- After a step, input 2's buffer still holds its block. -/
theorem after0_2 (c : Dev nD) (t : Fin cfg0.N) : (dats m 0 c).after 2 t = iblk m c 2 t := by dsimp only [dats]
/-- After a step, input 3's buffer still holds its block. -/
theorem after0_3 (c : Dev nD) (t : Fin cfg0.N) : (dats m 0 c).after 3 t = iblk m c 3 t := by dsimp only [dats]
/-- After a step, input 4's buffer still holds its block. -/
theorem after0_4 (c : Dev nD) (t : Fin cfg0.N) : (dats m 0 c).after 4 t = iblk m c 4 t := by dsimp only [dats]
/-- After a step, the codes' buffer holds what the steps so far leave in it. -/
theorem after0_5 (c : Dev nD) (t : Fin cfg0.N) : (dats m 0 c).after 5 t = (outsAt0 m c t.val t.isLt).1 := by dsimp only [dats]
/-- After a step, the scales' buffer holds what the steps so far leave in it. -/
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a step, input 1's buffer holds its block. -/
theorem before0_1 (c : Dev nD) (t : Fin cfg0.N) (d) : (dats m 0 c).before 1 t d = iblk m c 1 t :=
  before0_1_of m (dats m 0 c) (A_eq m c 1) (after0_1 m c) t d
/-- Before a step, input 2's buffer holds its block. -/
theorem before0_2 (c : Dev nD) (t : Fin cfg0.N) (d) : (dats m 0 c).before 2 t d = iblk m c 2 t :=
  before0_2_of m (dats m 0 c) (A_eq m c 2) (after0_2 m c) t d
/-- Before a step, input 3's buffer holds its block. -/
theorem before0_3 (c : Dev nD) (t : Fin cfg0.N) (d) : (dats m 0 c).before 3 t d = iblk m c 3 t :=
  before0_3_of m (dats m 0 c) (A_eq m c 3) (after0_3 m c) t d
/-- Before a step, input 4's buffer holds its block. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : (1 ≤ t.val % 65 ∧ t.val % 65 ≤ 63)
    · exfalso; omega
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0 sout0_A_2; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)).2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          isplitl [HS3]; · iexact HS3
          iintro ⟨H0, H1, H2, H3, H4, H5, H6, ⟨%es0, HS0⟩, ⟨%fT1, HS1⟩, ⟨%es2, HS2⟩, HS3⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _)
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          iexists _; iexact H6
        · exfalso; have hN : t.val < 65 := lt_of_lt_of_eq t.isLt (show cfg0.N = 65 from N_0); omega
  · by_cases h1 : (1 ≤ t.val % 65 ∧ t.val % 65 ≤ 63)
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2]
          unfold out0_B_5 out0_B_6 sout0_B_0 sout0_B_2; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, ⟨%e5, H5⟩, ⟨%e6, H6⟩, ⟨%es0, HS0⟩, ⟨%fT1, HS1⟩, ⟨%es2, HS2⟩, ⟨%fT3, HS3⟩⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _)
              iexists _; unfold owns; iexists _; isplitr
              swap; · iexact HS3
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _ _ _ _)
          unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _)
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2]
          unfold out0_C_5 out0_C_6 sout0_C_0 sout0_C_2; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, ⟨%e5, H5⟩, ⟨%e6, H6⟩, HS0, HS1, HS2, ⟨%fT3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              iexists _; unfold owns; iexists _; isplitr
              swap; · iexact HS3
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _ _ _ _)
          unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any float values `F`. Proof.lean cites it over the
    extended reals, and through KernelFrame.lean at machine words. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Own

end
-- ==== Proof.KernelFrame.lean ====
/- The kernel's frame, from the idealized kernel's: no rewrite was applied, so the two programs are one text under two names,
   and the frame of the idealized kernel, proved at any float values, is the kernel's too. -/
module

public import proofs.«01_k».proof.Kernel
public import proofs.«01_k».proof.Proof.Gen.Kernel
public import proofs.«01_k».proof.Proof.IdealFrame.Frame

@[expose] public section

set_option maxRecDepth 16384
set_option maxHeartbeats 2000000

noncomputable section

namespace Cert.Kernel.Own

open Cert.Kernel Idealize.ShloMosaic Idealize.ShloMosaic.TcCoe Idealize.SL.Sem

variable {F : FTy → Type} [FloatOps F]

/-- The two kernel functions are the same. -/
theorem body_eq : @Cert.Kernel.cc0_linear_requant F _ _ = @Cert.KernelIdeal.cc0_linear_requant F _ _ := rfl

/-- The two tables of kernel functions are the same. -/
theorem defs₀_eq : @Cert.Kernel.defs₀ F _ _ = @Cert.KernelIdeal.defs₀ F _ _ := by
  unfold Cert.Kernel.defs₀ Cert.KernelIdeal.defs₀
  refine congrArg Defs.onTc (funext fun l => funext fun x => ?_)
  obtain rfl : l = (0 : Fin 1) := Subsingleton.elim (α := Fin 1) _ _
  obtain ⟨t, s⟩ := x
  rfl

/-- The two body tables are the same. -/
theorem defs_eq : @Cert.Kernel.defs F _ _ = @Cert.KernelIdeal.defs F _ _ :=
  congrArg (Pipeline.defs (Cert.KernelIdeal.pcfgs (F := F))) defs₀_eq

/-- The two host programs are the same. -/
theorem main_eq : Cert.Kernel.main (F := F) = Cert.KernelIdeal.main (F := F) := rfl

/-- THE FRAME of the kernel: it terminates, its arguments are unchanged, and every semaphore ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Own.frame (F := F) m ρ

end Cert.Kernel.Own

end
-- ==== Proof.Exponent.lean ====
/- The exponent of the quantiser's scale, on extended reals. The kernel finds the exponent field of `q` by a binary
   search over powers of two and writes the scale and its inverse by their bits; the reference takes
   `floor (log q / log 2) + 1`. Both are the same power of two. -/
module

public import Idealize.ShloMosaic.Lib.Pointwise

@[expose] public section

noncomputable section

namespace Cert.Exponent

open Idealize.ShloMosaic

/-- The word with exponent field `k` and zero fraction is the power of two of that field. -/
theorem ofBits_of_toNat (w : BitVec 32) (k : ℕ) (h1 : 1 ≤ k) (h2 : k ≤ 254) (hv : w.toNat = k * 2 ^ 23) :
    Ideal.ofBits .f32 w = (((2 : ℝ) ^ ((k : ℤ) - 127) : ℝ) : EReal) := by
  have hex : (w.extractLsb' 23 8).toNat = k := by
    rw [BitVec.extractLsb'_toNat, hv, Nat.shiftRight_eq_div_pow]; omega
  have hfr : (w.extractLsb' 0 23).toNat = 0 := by
    rw [BitVec.extractLsb'_toNat, hv, Nat.shiftRight_eq_div_pow]; omega
  have hsg : (w.extractLsb' (8 + 23) 1 == 1#1) = false := by
    rw [beq_eq_false_iff_ne]; intro h
    have := congrArg BitVec.toNat h
    rw [BitVec.extractLsb'_toNat, hv, Nat.shiftRight_eq_div_pow, BitVec.toNat_ofNat] at this
    omega
  have he : Ideal.ofBits .f32 w = Ideal.ieee 8 23 w := rfl
  rw [he]
  unfold Ideal.ieee
  simp only [hex, hfr, hsg]
  rw [if_neg (by omega), if_neg (by omega)]
  congr 1
  simp only [Bool.false_eq_true, if_false, one_mul, Nat.add_zero]
  push_cast
  rw [show (8388608 : ℝ) = 2 ^ (23 : ℤ) by norm_num, ← zpow_add₀ (by norm_num)]
  congr 1
  ring

/-- The word of a positive power of two: exponent field `k`, fraction zero. -/
theorem ofBits_field (k : ℕ) (h1 : 1 ≤ k) (h2 : k ≤ 254) :
    Ideal.ofBits .f32 (BitVec.ofNat 32 k <<< 23) = (((2 : ℝ) ^ ((k : ℤ) - 127) : ℝ) : EReal) := by
  have hv : (BitVec.ofNat 32 k <<< 23).toNat = k * 2 ^ 23 := by
    rw [BitVec.toNat_shiftLeft, BitVec.toNat_ofNat, Nat.shiftLeft_eq, Nat.mod_eq_of_lt (by omega : k < 2 ^ 32)]
    exact Nat.mod_eq_of_lt (by omega)
  generalize BitVec.ofNat 32 k <<< 23 = w at hv
  exact ofBits_of_toNat w k h1 h2 hv

/-- The threshold of the search at candidate field `k`: the power of two with that field, capped at field 247. -/
def thr (k : ℕ) : EReal := (((2 : ℝ) ^ (((min k 247 : ℕ) : ℤ) - 127) : ℝ) : EReal)

/-- The powers of two grow with the field. -/
theorem thr_mono {a b : ℕ} (h : a ≤ b) : thr a ≤ thr b := by
  unfold thr
  rw [EReal.coe_le_coe_iff]
  exact zpow_le_zpow_right₀ (by norm_num) (by have := min_le_min_right 247 h; omega)

/-- One step of the search, on numbers: keep the step if the power of two it reaches is at most `q`. -/
def step (q : EReal) (b s : ℕ) : ℕ := if thr (b + s) ≤ q then b + s else b

/-- One step of the search as the kernel computes it, on words. -/
def stepWord (q : EReal) (b s : BitVec 32) : BitVec 32 :=
  if Ideal.ofBits .f32 (IntOp.shli ArithUnit.vector (IntOp.minsi (IntOp.addi b s) 247#32) 23#32) ≤ q
  then IntOp.addi b s else b

/-- One step of the search on words is the step on numbers. -/
theorem stepWord_eq (q : EReal) (b s : ℕ) (h1 : 1 ≤ s) (h2 : b + s ≤ 255) :
    stepWord q (BitVec.ofNat 32 b) (BitVec.ofNat 32 s) = BitVec.ofNat 32 (step q b s) := by
  have ha : IntOp.addi (BitVec.ofNat 32 b) (BitVec.ofNat 32 s) = BitVec.ofNat 32 (b + s) := by
    show BitVec.ofNat 32 b + BitVec.ofNat 32 s = _
    rw [BitVec.ofNat_add]
  have hm : IntOp.minsi (BitVec.ofNat 32 (b + s)) 247#32 = BitVec.ofNat 32 (min (b + s) 247) := by
    have : ∀ n : Fin 256, IntOp.minsi (BitVec.ofNat 32 n.val) 247#32 = BitVec.ofNat 32 (min n.val 247) := by decide
    exact this ⟨b + s, by omega⟩
  have hs : ∀ w : BitVec 32, IntOp.shli ArithUnit.vector w 23#32 = w <<< 23 := fun w => if_pos (by decide)
  unfold stepWord step
  rw [ha, hm, hs, ofBits_field _ (by omega) (by omega)]
  show (if thr (b + s) ≤ q then _ else _) = _
  split <;> rfl

/-- The search on words: eight steps from zero. -/
def fieldWord (q : EReal) : BitVec 32 :=
  stepWord q (stepWord q (stepWord q (stepWord q (stepWord q (stepWord q (stepWord q (stepWord q 0#32
    128#32) 64#32) 32#32) 16#32) 8#32) 4#32) 2#32) 1#32

/-- The search on numbers. -/
def field (q : EReal) : ℕ :=
  step q (step q (step q (step q (step q (step q (step q (step q 0 128) 64) 32) 16) 8) 4) 2) 1

/-- A step adds at most its size. -/
theorem step_le (q : EReal) (b s : ℕ) : step q b s ≤ b + s := by unfold step; split <;> omega

/-- The search on words finds the field found on numbers. -/
theorem fieldWord_eq (q : EReal) : fieldWord q = BitVec.ofNat 32 (field q) := by
  unfold fieldWord field
  have e := step_le q
  have h1 := e 0 128
  have h2 := e (step q 0 128) 64
  have h3 := e (step q (step q 0 128) 64) 32
  have h4 := e (step q (step q (step q 0 128) 64) 32) 16
  have h5 := e (step q (step q (step q (step q 0 128) 64) 32) 16) 8
  have h6 := e (step q (step q (step q (step q (step q 0 128) 64) 32) 16) 8) 4
  have h7 := e (step q (step q (step q (step q (step q (step q 0 128) 64) 32) 16) 8) 4) 2
  rw [stepWord_eq q 0 128 (by omega) (by omega), stepWord_eq q _ 64 (by omega) (by omega),
    stepWord_eq q _ 32 (by omega) (by omega), stepWord_eq q _ 16 (by omega) (by omega),
    stepWord_eq q _ 8 (by omega) (by omega), stepWord_eq q _ 4 (by omega) (by omega),
    stepWord_eq q _ 2 (by omega) (by omega), stepWord_eq q _ 1 (by omega) (by omega)]

/-- Between candidates `b` and `b + w` the search has narrowed `q` down. -/
def Inv (q : EReal) (b w : ℕ) : Prop := b + w ≤ 256 ∧ (b = 0 ∨ thr b ≤ q) ∧ (b + w = 256 ∨ q < thr (b + w))

/-- A step halves the interval the exponent field lies in. -/
theorem Inv.step {q : EReal} {b s : ℕ} (h : Inv q b (s + s)) : Inv q (step q b s) s := by
  obtain ⟨h0, h1, h2⟩ := h
  unfold Exponent.step
  split
  · rename_i h
    exact ⟨by omega, Or.inr h, by rwa [Nat.add_assoc]⟩
  · rename_i h
    exact ⟨by omega, h1, Or.inr (not_le.mp h)⟩

/-- After all steps the interval has length one. -/
theorem field_inv (q : EReal) : Inv q (field q) 1 := by
  have h : Inv q 0 (128 + 128) := ⟨by omega, Or.inl rfl, Or.inl rfl⟩
  exact (((((((h.step (s := 128)).step (s := 64)).step (s := 32)).step (s := 16)).step (s := 8)).step (s := 4)).step (s := 2)).step (s := 1)

/-- Below the least normal power of two the field is zero. -/
theorem field_low {q : EReal} (h : q < thr 1) : field q = 0 := by
  obtain ⟨-, h1, -⟩ := field_inv q
  rcases h1 with h1 | h1
  · exact h1
  · by_contra hz
    exact absurd (lt_of_le_of_lt h1 h) (not_lt.mpr (thr_mono (by omega)))

/-- From the cap on the field is 255. -/
theorem field_high {q : EReal} (h : thr 247 ≤ q) : field q = 255 := by
  obtain ⟨h0, -, h2⟩ := field_inv q
  rcases h2 with h2 | h2
  · omega
  · exfalso
    have : thr (field q + 1) ≤ thr 247 := by
      unfold thr
      rw [EReal.coe_le_coe_iff]
      exact zpow_le_zpow_right₀ (by norm_num) (by omega)
    exact absurd (lt_of_le_of_lt h h2) (not_lt.mpr this)

/-- In between it is the exponent of the binade of `q`. -/
theorem field_mid {q : EReal} (h1 : thr 1 ≤ q) (h2 : q < thr 247) :
    1 ≤ field q ∧ field q ≤ 246 ∧ thr (field q) ≤ q ∧ q < thr (field q + 1) := by
  obtain ⟨h0, ha, hb⟩ := field_inv q
  have hu : field q ≤ 246 := by
    by_contra hc
    rcases ha with ha | ha
    · omega
    · exact absurd (lt_of_le_of_lt ((thr_mono (by omega : 247 ≤ field q)).trans ha) h2) (lt_irrefl _)
  have hq : q < thr (field q + 1) := by
    rcases hb with hb | hb
    · omega
    · exact hb
  have hl : 1 ≤ field q := by
    by_contra hc
    have : field q = 0 := by omega
    rw [this] at hq
    exact absurd (lt_of_le_of_lt h1 hq) (lt_irrefl _)
  refine ⟨hl, hu, ?_, hq⟩
  rcases ha with ha | ha
  · omega
  · exact ha

/-- The reference's exponent of a scale for `q`: `floor (log q / log 2) + 1` in the normal range, else zero. -/
def expo (q : EReal) : EReal :=
  if Ideal.ofBits .f32 0x00800000#32 ≤ q ∧ q < Ideal.ofBits .f32 0x7B800000#32 then
    Ideal.liftRound Int.floor (Ideal.div (Ideal.log q) (Ideal.log (Ideal.ofBits .f32 0x40000000#32))) + Ideal.ofBits .f32 0x3F800000#32
  else 0

/-- The smallest normal word is the first power. -/
theorem ofBits_min : Ideal.ofBits .f32 0x00800000#32 = thr 1 := by
  rw [show (0x00800000#32 : BitVec 32) = BitVec.ofNat 32 1 <<< 23 from by decide, ofBits_field 1 (by omega) (by omega)]; rfl

/-- The word of 2^120 is the power of field 247. -/
theorem ofBits_cap : Ideal.ofBits .f32 0x7B800000#32 = thr 247 := by
  rw [show (0x7B800000#32 : BitVec 32) = BitVec.ofNat 32 247 <<< 23 from by decide, ofBits_field 247 (by omega) (by omega)]; rfl

/-- The word of two is two. -/
theorem ofBits_two : Ideal.ofBits .f32 0x40000000#32 = ((2 : ℝ) : EReal) := by
  rw [show (0x40000000#32 : BitVec 32) = BitVec.ofNat 32 128 <<< 23 from by decide, ofBits_field 128 (by omega) (by omega)]
  norm_num

/-- The word of one is one. -/
theorem ofBits_one : Ideal.ofBits .f32 0x3F800000#32 = ((1 : ℝ) : EReal) := by
  rw [show (0x3F800000#32 : BitVec 32) = BitVec.ofNat 32 127 <<< 23 from by decide, ofBits_field 127 (by omega) (by omega)]
  norm_num

/-- The reference's exponent is the field of the binade, less the bias, plus one. -/
theorem expo_mid {q : EReal} (h1 : thr 1 ≤ q) (h2 : q < thr 247) :
    expo q = ((((field q : ℤ) - 126 : ℤ) : ℝ) : EReal) := by
  obtain ⟨hl, hu, ha, hb⟩ := field_mid h1 h2
  unfold expo
  rw [ofBits_min, ofBits_cap, if_pos ⟨h1, h2⟩, ofBits_two, ofBits_one]
  induction q using EReal.rec with
  | bot => exact absurd (le_bot_iff.mp h1) (EReal.coe_ne_bot _)
  | top => exact absurd h2 not_top_lt
  | coe x =>
    generalize field (x : EReal) = n at *
    unfold thr at ha hb
    rw [EReal.coe_le_coe_iff, Nat.min_eq_left (by omega)] at ha
    rw [EReal.coe_lt_coe_iff, Nat.min_eq_left (by omega)] at hb
    have hx : 0 < x := lt_of_lt_of_le (by positivity) ha
    have hl2 : 0 < Real.log 2 := Real.log_pos (by norm_num)
    rw [Ideal.log_coe, Ideal.log_coe, if_neg (not_le.mpr hx), if_neg (by norm_num), Ideal.div_coe hl2.ne', ← EReal.coe_mul]
    have hf : ⌊Real.log x * (1 / Real.log 2)⌋ = (n : ℤ) - 127 := by
      rw [mul_one_div, Int.floor_eq_iff, le_div_iff₀ hl2, div_lt_iff₀ hl2]
      have e1 := Real.log_le_log (by positivity) ha
      have e2 := Real.log_lt_log hx hb
      rw [Real.log_zpow] at e1 e2
      push_cast at e1 e2 ⊢
      constructor <;> nlinarith
    show ((⌊Real.log x * (1 / Real.log 2)⌋ : ℝ) : EReal) + _ = _
    rw [hf, ← EReal.coe_add]
    congr 1
    push_cast; ring

/-- Out of range the exponent is zero. -/
theorem expo_out {q : EReal} (h : ¬(thr 1 ≤ q ∧ q < thr 247)) : expo q = 0 := by
  unfold expo
  rw [ofBits_min, ofBits_cap, if_neg h]

/-- `1` where the field of `q` is a normal exponent below 255, as the kernel computes it. -/
def okWord (b : BitVec 32) : BitVec 1 :=
  IntOp.andi (IntOp.cmpi .sgt b 0#32) (IntOp.cmpi .slt b 255#32)

/-- The scale as the kernel writes it from the field. -/
def scaleWord (b : BitVec 32) : EReal :=
  Ideal.ofBits .f32 (IntOp.shli ArithUnit.vector (Scalar.select (okWord b) (IntOp.addi b 1#32) 127#32) 23#32)

/-- The inverse of the scale as the kernel writes it from the field. -/
def invWord (b : BitVec 32) : EReal :=
  Ideal.ofBits .f32 (IntOp.shli ArithUnit.vector (Scalar.select (okWord b) (IntOp.subi 253#32 b) 127#32) 23#32)

/-- The shift by 23 places. -/
theorem shli_23 (w : BitVec 32) : IntOp.shli ArithUnit.vector w 23#32 = w <<< 23 := if_pos (by decide)

/-- The exponent field of the scale: one more than `q`'s, or 127 (a scale of one) out of range. -/
theorem scale_arg : ∀ n : Fin 256, Scalar.select (okWord (BitVec.ofNat 32 n.val)) (IntOp.addi (BitVec.ofNat 32 n.val) 1#32) 127#32
    = BitVec.ofNat 32 (if 1 ≤ n.val ∧ n.val ≤ 254 then n.val + 1 else 127) := by decide

/-- The exponent field of the inverse scale: 253 less `q`'s, or 127 at the field 0. -/
theorem inv_arg : ∀ n : Fin 247, Scalar.select (okWord (BitVec.ofNat 32 n.val)) (IntOp.subi 253#32 (BitVec.ofNat 32 n.val)) 127#32
    = BitVec.ofNat 32 (if 1 ≤ n.val then 253 - n.val else 127) := by decide

/-- The inverse scale at the field 0 is one. -/
theorem inv_arg_0 : Scalar.select (okWord (BitVec.ofNat 32 0)) (IntOp.subi 253#32 (BitVec.ofNat 32 0)) 127#32
    = BitVec.ofNat 32 127 := by decide

/-- The scale at the field 0 is one. -/
theorem scale_arg_0 : Scalar.select (okWord (BitVec.ofNat 32 0)) (IntOp.addi (BitVec.ofNat 32 0) 1#32) 127#32
    = BitVec.ofNat 32 127 := by decide

/-- The scale at the field 255 is one. -/
theorem scale_arg_255 : Scalar.select (okWord (BitVec.ofNat 32 255)) (IntOp.addi (BitVec.ofNat 32 255) 1#32) 127#32
    = BitVec.ofNat 32 127 := by decide

/-- The inverse scale at the field 255 is one. -/
theorem inv_arg_255 : Scalar.select (okWord (BitVec.ofNat 32 255)) (IntOp.subi 253#32 (BitVec.ofNat 32 255)) 127#32
    = BitVec.ofNat 32 127 := by decide

/-- Two to an integer power. -/
theorem exp2_int (k : ℤ) : Ideal.exp2 (((k : ℤ) : ℝ) : EReal) = (((2 : ℝ) ^ k : ℝ) : EReal) := by
  show ((Real.rpow 2 (k : ℝ) : ℝ) : EReal) = _
  congr 1
  exact Real.rpow_intCast 2 k

/-- Out of range the field is 0 or 255. -/
theorem field_out {q : EReal} (h : ¬(thr 1 ≤ q ∧ q < thr 247)) : field q = 0 ∨ field q = 255 := by
  by_cases h1 : thr 1 ≤ q
  · exact Or.inr (field_high (not_lt.mp fun h2 => h ⟨h1, h2⟩))
  · exact Or.inl (field_low (not_le.mp h1))

/-- The word with field 127 is two to the power zero. -/
theorem exp2_zero_word : Ideal.ofBits .f32 (BitVec.ofNat 32 127 <<< 23) = Ideal.exp2 0 := by
  rw [ofBits_field 127 (by omega) (by omega)]
  have := exp2_int 0
  simp only [Int.cast_zero, EReal.coe_zero] at this
  rw [this]; norm_num

/-- The scale the kernel writes is two to the reference's exponent. -/
theorem scale_eq (q : EReal) : scaleWord (fieldWord q) = Ideal.exp2 (expo q) := by
  rw [fieldWord_eq]; unfold scaleWord
  by_cases h : thr 1 ≤ q ∧ q < thr 247
  · obtain ⟨hl, hu, -, -⟩ := field_mid h.1 h.2
    rw [scale_arg ⟨field q, by omega⟩, if_pos ⟨hl, by show field q ≤ 254; omega⟩, shli_23,
      ofBits_field _ (by omega) (by show field q + 1 ≤ 254; omega), expo_mid h.1 h.2, exp2_int]
    congr 2
    push_cast; ring
  · rw [expo_out h]
    rcases field_out h with h | h
    · rw [h, scale_arg_0, shli_23, exp2_zero_word]
    · rw [h, scale_arg_255, shli_23, exp2_zero_word]

/-- The inverse the kernel writes is two to minus the reference's exponent. -/
theorem inv_eq (q : EReal) : invWord (fieldWord q) = Ideal.exp2 (0 - expo q) := by
  rw [fieldWord_eq]; unfold invWord
  by_cases h : thr 1 ≤ q ∧ q < thr 247
  · obtain ⟨hl, hu, -, -⟩ := field_mid h.1 h.2
    rw [inv_arg ⟨field q, by omega⟩, if_pos hl, shli_23, ofBits_field _ (by show 1 ≤ 253 - field q; omega) (by show 253 - field q ≤ 254; omega),
      expo_mid h.1 h.2, ← EReal.coe_zero, ← EReal.coe_sub,
      show ((0 : ℝ) - (((field q : ℤ) - 126 : ℤ) : ℝ)) = ((126 - (field q : ℤ) : ℤ) : ℝ) by push_cast; ring, exp2_int]
    congr 2
    show ((253 - field q : ℕ) : ℤ) - 127 = _
    omega
  · rw [expo_out h, sub_zero]
    rcases field_out h with h | h
    · rw [h, inv_arg_0, shli_23, exp2_zero_word]
    · rw [h, inv_arg_255, shli_23, exp2_zero_word]

end Cert.Exponent

end
-- ==== Proof.Chunks.lean ====
/- What one chunk of the kernel computes, entry by entry, over the extended reals: a column chunk of the dequantised product,
   its lane maxima, the row maxima and the scales, the quantised chunk. -/
module

public import proofs.«01_k».proof.Proof.Gen.KernelIdeal.Skeleton
public import proofs.«01_k».proof.Proof.Exponent

@[expose] public section

set_option maxRecDepth 16384

noncomputable section

namespace Cert.KernelIdeal.Own

open Cert.KernelIdeal.Gen Cert.Exponent Idealize.ShloMosaic Idealize.ShloMosaic.Pointwise

/-- A chunk of the dequantised product, where the row scale held by `xc` is `f` of the row in every lane. -/
theorem y_apply (x : Vec Ideal S256x2304 .fp8e4m3) (w : Vec Ideal S2304x768 .fp8e4m3) (xc : Vec Ideal S256x128 .f32)
    (ws : Vec Ideal S1x768 .f32) (r : Vec Ideal S256x768 .bf16) (f : Fin 256 → EReal) (hf : ∀ a l, xc (ix2 a l) = f a)
    (a : Fin 256) (b : Fin 768) :
    k0_pay6 (F := Ideal) x w xc ws r (ix2 a b)
      = (∑ k : Fin 2304, x (ix2 a k) * w (ix2 k b)) * f a * ws (ix2 0 b) + r (ix2 a b) := by
  pointwise [k0_pay6]
  simp only [hf, dite_eq_ite, ite_self]

/-- What a chunk stores is the value computed for it: the cast to its own shape changes nothing. -/
theorem y_stored (x : Vec Ideal S256x2304 .fp8e4m3) (w : Vec Ideal S2304x768 .fp8e4m3) (xc : Vec Ideal S256x128 .f32)
    (ws : Vec Ideal S1x768 .f32) (r : Vec Ideal S256x768 .bf16) :
    k0_pay7 (F := Ideal) x w xc ws r = k0_pay6 (F := Ideal) x w xc ws r :=
  shapeCast_self _ _

/-- The lane maximum of chunk `c` of a row whose entries are `y`: over the six columns of the chunk at lane `l`. -/
def laneMax (y : ℕ → EReal) (c l : ℕ) : EReal :=
  max (max (max (max (max (max (y (768 * c + l)) (-y (768 * c + l)))
    (max (y (768 * c + (128 + l))) (-y (768 * c + (128 + l)))))
    (max (y (768 * c + (256 + l))) (-y (768 * c + (256 + l)))))
    (max (y (768 * c + (384 + l))) (-y (768 * c + (384 + l)))))
    (max (y (768 * c + (512 + l))) (-y (768 * c + (512 + l)))))
    (max (y (768 * c + (640 + l))) (-y (768 * c + (640 + l))))

/-- The running lane maximum after chunks `0 … n`. -/
def lanes (y : ℕ → EReal) : ℕ → ℕ → EReal
  | 0, l => laneMax y 0 l
  | n + 1, l => max (lanes y n l) (laneMax y (n + 1) l)

/-- The first chunk's lane maxima. -/
theorem lanes_first (x : Vec Ideal S256x2304 .fp8e4m3) (w : Vec Ideal S2304x768 .fp8e4m3) (xc : Vec Ideal S256x128 .f32)
    (ws : Vec Ideal S1x768 .f32) (r : Vec Ideal S256x768 .bf16) (y : Fin 256 → ℕ → EReal)
    (hv : ∀ (a : Fin 256) (b : Fin 768), k0_pay6 (F := Ideal) x w xc ws r (ix2 a b) = y a (768 * 0 + b)) (a : Fin 256) (l : Fin 128) :
    k0_pay9 (F := Ideal) (k0_pay8 x w xc ws r) (ix2 a l) = lanes (y a) 0 l := by
  pointwise [k0_pay9, k0_pay8]
  simp only [hv]
  rfl

/-- A later chunk's lane maxima: those before, joined with its own. -/
theorem lanes_step (x : Vec Ideal S256x2304 .fp8e4m3) (w : Vec Ideal S2304x768 .fp8e4m3) (xc : Vec Ideal S256x128 .f32)
    (ws : Vec Ideal S1x768 .f32) (r : Vec Ideal S256x768 .bf16) (p : Vec Ideal S256x128 .f32) (y : Fin 256 → ℕ → EReal) (n : ℕ)
    (hv : ∀ (a : Fin 256) (b : Fin 768), k0_pay6 (F := Ideal) x w xc ws r (ix2 a b) = y a (768 * (n + 1) + b))
    (hp : ∀ (a : Fin 256) (l : Fin 128), p (ix2 a l) = lanes (y a) n l) (a : Fin 256) (l : Fin 128) :
    k0_pay13 (F := Ideal) (k0_pay12 x w xc ws r) p (ix2 a l) = lanes (y a) (n + 1) l := by
  have hv' : ∀ (a : Fin 256) (b : Fin 768), k0_pay10 (F := Ideal) x w xc ws r (ix2 a b) = y a (768 * (n + 1) + b) := hv
  pointwise [k0_pay13, k0_pay12]
  simp only [hv', hp]
  rfl

/-- A quantised chunk, where the inverse scale held by `v` is `f` of the row in every lane. -/
theorem codes_apply (v : Vec Ideal S256x128 .f32) (w : Vec Ideal S256x768 .f32) (f : Fin 256 → EReal) (hf : ∀ a l, v (ix2 a l) = f a)
    (a : Fin 256) (b : Fin 768) :
    k0_pay162 (F := Ideal) v w (ix2 a b)
      = min (Ideal.ofBits .f32 0x43E00000#32) (max (Ideal.ofBits .f32 0xC3E00000#32) (w (ix2 a b) * f a)) := by
  pointwise [k0_pay162]
  simp only [hf, dite_eq_ite, ite_self]

/-- The column of row scales, in every lane. -/
theorem xc_apply (v : Vec Ideal S1x1x128 .f32) (a l : Fin 128) : k0_pay4 (F := Ideal) v (ix2 a l) = v (ix3 0 0 a) := by
  pointwise [k0_pay4]

/-- A row's `q`: the largest of its lane maxima, over 448. -/
def rowQ (v : Vec Ideal S128x128 .f32) (a : Fin 128) : EReal :=
  Finset.fold max (Ideal.ofBits .f32 0xFF800000#32) (fun l : Fin 128 => v (ix2 a l)) Finset.univ * Ideal.ofBits .f32 0x3B124925#32

/-- The row maximum times 1/448, at one row. -/
theorem q_apply (v : Vec Ideal S128x128 .f32) (a : Fin 128) : k0_pay142 (F := Ideal) v (ix2 0 a) = rowQ v a := by
  pointwise [k0_pay142]
  rfl

/-- One step of the search, on a vector of rows. -/
def stepV {F : FTy → Type} [FloatOps F] (q : FVec F S1x128 .f32) (b : IVec S1x128 32) (s : BitVec 32) : IVec S1x128 32 :=
  select (cmpf .oge q (bitcastToFloat .f32 (shli (minsi (addi b (broadcast S1x128 s)) (broadcast S1x128 247#32)) (broadcast S1x128 23#32))))
    (addi b (broadcast S1x128 s)) b

/-- One step of the search on a vector, at one place. -/
theorem stepV_apply (q : FVec Ideal S1x128 .f32) (b : IVec S1x128 32) (s : BitVec 32) (a : Fin 128) :
    stepV q b s (ix2 0 a) = stepWord (q (ix2 0 a)) (b (ix2 0 a)) s := by
  pointwise [stepV]
  rfl

/-- The search on a vector of rows. -/
def fieldV {F : FTy → Type} [FloatOps F] (q : FVec F S1x128 .f32) : IVec S1x128 32 :=
  stepV q (stepV q (stepV q (stepV q (stepV q (stepV q (stepV q (stepV q (broadcast S1x128 0#32)
    128#32) 64#32) 32#32) 16#32) 8#32) 4#32) 2#32) 1#32

/-- The whole search on a vector, at one place. -/
theorem fieldV_apply (q : FVec Ideal S1x128 .f32) (a : Fin 128) : fieldV q (ix2 0 a) = fieldWord (q (ix2 0 a)) := by
  unfold fieldV
  simp only [stepV_apply]
  rfl

/-- The search printed for the first half of the rows is `fieldV`. -/
theorem field_first {F : FTy → Type} [FloatOps F] (v : Vec F S128x128 .f32) :
    k0_pay144 (k0_pay142 v) (k0_pay143 v) = fieldV (k0_pay142 v) := rfl

/-- The search printed for the second half of the rows is `fieldV`. -/
theorem field_second {F : FTy → Type} [FloatOps F] (v : Vec F S128x128 .f32) :
    k0_pay157 (k0_pay150 v) (k0_pay154 (k0_pay150 v) (k0_pay151 v) (k0_pay152 v) k0_pay153)
      (k0_pay155 (k0_pay150 v) (k0_pay151 v) (k0_pay152 v) k0_pay153) k0_pay156 = fieldV (k0_pay142 v) := rfl

/-- The scales of 128 rows from their fields. -/
def scaleV {F : FTy → Type} [FloatOps F] (b : IVec S1x128 32) : FVec F S1x1x128 .f32 :=
  k0_pay148 (andi (cmpi .sgt b (broadcast S1x128 0#32)) (cmpi .slt b (broadcast S1x128 255#32)))
    (addi b (broadcast S1x128 1#32)) (broadcast S1x128 127#32)

/-- The scale stored for a row. -/
theorem scaleV_apply (b : IVec S1x128 32) (a : Fin 128) : scaleV (F := Ideal) b (ix3 0 0 a) = scaleWord (b (ix2 0 a)) := by
  pointwise [scaleV, k0_pay148]
  rfl

/-- The inverse scales of 128 rows from their fields, in every lane. -/
def invV {F : FTy → Type} [FloatOps F] (b : IVec S1x128 32) : FVec F S128x128 .f32 :=
  k0_pay149 b (andi (cmpi .sgt b (broadcast S1x128 0#32)) (cmpi .slt b (broadcast S1x128 255#32)))

/-- The inverse scale stored for a row, the same in every lane. -/
theorem invV_apply (b : IVec S1x128 32) (a l : Fin 128) : invV (F := Ideal) b (ix2 a l) = invWord (b (ix2 0 a)) := by
  pointwise [invV, k0_pay149]
  rfl

end Cert.KernelIdeal.Own

end
-- ==== Proof.Spec.lean ====
/-
  The problem's two results over the extended reals, entry by entry, as functions of the five arguments; and the fact that the
  largest of the 128 lane maxima of a row is the largest absolute value of the row.
-/
module

public import proofs.«01_k».proof.Proof.Chunks

@[expose] public section

noncomputable section

namespace Cert.Spec

open Cert.Exponent Idealize.ShloMosaic Idealize.ShloMosaic.Pointwise

/-- Entry `n` of row `(b, s)` of the unquantised result: the product, times the row's scale, times the column's scale, plus the
    residual. It is `0` past the last column. -/
def Y (a0 : (⟨3, ![8, 2048, 2304]⟩ : Shape).Idx → EReal) (a1 : (⟨3, ![8, 2048, 1]⟩ : Shape).Idx → EReal)
    (a2 : (⟨2, ![2304, 9984]⟩ : Shape).Idx → EReal) (a3 : (⟨2, ![1, 9984]⟩ : Shape).Idx → EReal)
    (a4 : (⟨3, ![8, 2048, 9984]⟩ : Shape).Idx → EReal) (b : Fin 8) (s : Fin 2048) (n : ℕ) : EReal :=
  if h : n < 9984 then
    (∑ k : Fin 2304, a0 (ix3 b s k) * a2 (ix2 k ⟨n, h⟩)) * a1 (ix3 b s 0) * a3 (ix2 0 ⟨n, h⟩) + a4 (ix3 b s ⟨n, h⟩)
  else 0

/-- A row's `q`: its largest absolute value, over 448. -/
def Q (y : ℕ → EReal) : EReal :=
  Finset.fold max (Ideal.ofBits .f32 0xFF800000#32) (fun n : Fin 9984 => max (y n) (-y n)) Finset.univ * Ideal.ofBits .f32 0x3B124925#32

/-- Entry `n` of a row's codes: divided by the row's scale and clipped. -/
def code (y : ℕ → EReal) (n : ℕ) : EReal :=
  min (Ideal.ofBits .f32 0x43E00000#32) (max (Ideal.ofBits .f32 0xC3E00000#32) (y n * Ideal.exp2 (0 - expo (Q y))))

/-- A row's scale, a power of two. -/
def scale (y : ℕ → EReal) : EReal := Ideal.exp2 (expo (Q y))

/-- The bits of the maximum's initial value are those of minus infinity. -/
theorem ofBits_bot : Ideal.ofBits .f32 0xFF800000#32 = ⊥ := by
  simp [Ideal.ofBits, Ideal.ieee]

/-- A maximum over a finite set is at most any bound of its members. -/
theorem fold_le {ι : Type} (s : Finset ι) (f : ι → EReal) (c : EReal) (h : ∀ i ∈ s, f i ≤ c) :
    Finset.fold max ⊥ f s ≤ c := (Finset.fold_max_le c).mpr ⟨bot_le, h⟩

/-- A member of a finite set is at most the maximum over it. -/
theorem le_fold {ι : Type} (s : Finset ι) (f : ι → EReal) (i : ι) (h : i ∈ s) : f i ≤ Finset.fold max ⊥ f s :=
  (Finset.le_fold_max (f i)).mpr (Or.inr ⟨i, h, le_rfl⟩)

open Cert.KernelIdeal.Own (laneMax lanes)

/-- A bound of the entries of chunk `c` at lane `l` bounds their lane maximum. -/
theorem laneMax_le (y : ℕ → EReal) (c l : ℕ) (M : EReal) (hl : l < 128) (hc : c < 13)
    (h : ∀ n < 9984, max (y n) (-y n) ≤ M) : laneMax y c l ≤ M := by
  unfold laneMax
  simp only [max_le_iff] at h ⊢
  have h0 := h (768 * c + l) (by omega)
  have h1 := h (768 * c + (128 + l)) (by omega)
  have h2 := h (768 * c + (256 + l)) (by omega)
  have h3 := h (768 * c + (384 + l)) (by omega)
  have h4 := h (768 * c + (512 + l)) (by omega)
  have h5 := h (768 * c + (640 + l)) (by omega)
  tauto

/-- A lane's maximum is at most any bound of the row's absolute values. -/
theorem lanes_le (y : ℕ → EReal) (l : ℕ) (M : EReal) (hl : l < 128)
    (h : ∀ n < 9984, max (y n) (-y n) ≤ M) : ∀ c < 13, lanes y c l ≤ M
  | 0, hc => laneMax_le y 0 l M hl hc h
  | c + 1, hc => max_le (lanes_le y l M hl h c (by omega)) (laneMax_le y (c + 1) l M hl hc h)

/-- An entry's absolute value is at most the lane maximum of its chunk at its lane. -/
theorem le_laneMax (y : ℕ → EReal) (c j l : ℕ) (hj : j < 6) :
    max (y (768 * c + (128 * j + l))) (-y (768 * c + (128 * j + l))) ≤ laneMax y c l := by
  unfold laneMax
  have hj' : j = 0 ∨ j = 1 ∨ j = 2 ∨ j = 3 ∨ j = 4 ∨ j = 5 := by omega
  rcases hj' with rfl | rfl | rfl | rfl | rfl | rfl
  · rw [show 128 * 0 + l = l by omega]
    exact le_max_of_le_left (le_max_of_le_left (le_max_of_le_left (le_max_of_le_left (le_max_left _ _))))
  · exact le_max_of_le_left (le_max_of_le_left (le_max_of_le_left (le_max_of_le_left (le_max_right _ _))))
  · exact le_max_of_le_left (le_max_of_le_left (le_max_of_le_left (le_max_right _ _)))
  · exact le_max_of_le_left (le_max_of_le_left (le_max_right _ _))
  · exact le_max_of_le_left (le_max_right _ _)
  · exact le_max_right _ _

/-- One chunk's maximum in a lane is at most the lane's maximum over the chunks up to any later one. -/
theorem laneMax_le_lanes (y : ℕ → EReal) (l : ℕ) : ∀ n c : ℕ, c ≤ n → laneMax y c l ≤ lanes y n l
  | 0, c, h => by obtain rfl : c = 0 := by omega
                  exact le_rfl
  | n + 1, c, h => by
    by_cases hc : c = n + 1
    · subst hc; exact le_max_right _ _
    · exact (laneMax_le_lanes y l n c (by omega)).trans (le_max_left _ _)

/-- The largest of the lane maxima of a row, over 448, is the row's `q`. -/
theorem lanes_Q (y : ℕ → EReal) :
    Finset.fold max (Ideal.ofBits .f32 0xFF800000#32) (fun l : Fin 128 => lanes y 12 l) Finset.univ * Ideal.ofBits .f32 0x3B124925#32
      = Q y := by
  unfold Q
  refine congrArg (· * Ideal.ofBits .f32 0x3B124925#32) ?_
  rw [ofBits_bot]
  apply le_antisymm
  · refine fold_le _ _ _ fun l _ => lanes_le y l _ l.isLt (fun n hn => ?_) 12 (by omega)
    exact le_fold Finset.univ (fun n : Fin 9984 => max (y n) (-y n)) ⟨n, hn⟩ (Finset.mem_univ _)
  · refine fold_le _ _ _ fun n _ => ?_
    have hn := n.isLt
    have e : (n : ℕ) = 768 * (n / 768) + (128 * (n % 768 / 128) + n % 128) := by omega
    have h1 := le_laneMax y (n / 768) (n % 768 / 128) (n % 128) (by omega)
    rw [← e] at h1
    refine h1.trans ((laneMax_le_lanes y _ 12 _ (by omega)).trans ?_)
    exact le_fold Finset.univ (fun l : Fin 128 => lanes y 12 l) ⟨n % 128, by omega⟩ (Finset.mem_univ _)

end Cert.Spec

end
-- ==== Proof.Args.lean ====
/- The arrays the kernel's windows read, entry by entry, out of the five arguments; and its two results out of the arrays it writes. -/
module

public import proofs.«01_k».proof.Proof.IdealFrame.Frame
public import proofs.«01_k».proof.Proof.Spec
public import Idealize.ShloMosaic.Lib.Pointwise

@[expose] public section

noncomputable section

namespace Cert.KernelIdeal.Own

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- The kernel finds the row scales reshaped. -/
theorem V_main_v0 (c : Dev nD) :
    V m c main_v0 = shapeCast S8x1x2048 (m ((c : Thread nD τ).loc main_arg1)) shapeCasts_S8x2048x1_S8x1x2048 := by
  show StableHlo.after (List.flatten [hostOps0]) _ (Proc.devRef .tc main_v0) = _
  simp only [hostOps0, List.flatten_cons, List.flatten_nil, List.append_nil, List.cons_append, List.nil_append]
  after_results
  try rfl

/-- The kernel finds the left operand reshaped. -/
theorem V_main_v1 (c : Dev nD) :
    V m c main_v1 = shapeCast S16384x2304 (m ((c : Thread nD τ).loc main_arg0)) shapeCasts_S8x2048x2304_S16384x2304 := by
  show StableHlo.after (List.flatten [hostOps0]) _ (Proc.devRef .tc main_v1) = _
  simp only [hostOps0, List.flatten_cons, List.flatten_nil, List.append_nil, List.cons_append, List.nil_append]
  after_results
  try rfl

/-- The kernel finds the residual reshaped. -/
theorem V_main_v2 (c : Dev nD) :
    V m c main_v2 = shapeCast S16384x9984 (m ((c : Thread nD τ).loc main_arg4)) shapeCasts_S8x2048x9984_S16384x9984 := by
  show StableHlo.after (List.flatten [hostOps0]) _ (Proc.devRef .tc main_v2) = _
  simp only [hostOps0, List.flatten_cons, List.flatten_nil, List.append_nil, List.cons_append, List.nil_append]
  after_results
  try rfl

/-- The columns of row scales, read as rows of row scales. -/
theorem cast_scales {α : Type} (v : S8x2048x1.Idx → α) (b : Fin 8) (s : Fin 2048) :
    shapeCast S8x1x2048 v shapeCasts_S8x2048x1_S8x1x2048 (ix3 b 0 s) = v (ix3 b s 0) :=
  shapeCast_apply _ _ _ _ (by
    rw [Shape.rowMajor_val_three, Shape.rowMajor_val_three]
    show (b.val * 2048 + s.val) * 1 + 0 = (b.val * 1 + 0) * 2048 + s.val
    omega)

/-- … and back. -/
theorem cast_scales_back {α : Type} (v : S8x1x2048.Idx → α) (b : Fin 8) (s : Fin 2048) :
    shapeCast S8x2048x1 v shapeCasts_S8x1x2048_S8x2048x1 (ix3 b s 0) = v (ix3 b 0 s) :=
  shapeCast_apply _ _ _ _ (by
    rw [Shape.rowMajor_val_three, Shape.rowMajor_val_three]
    show (b.val * 1 + 0) * 2048 + s.val = (b.val * 2048 + s.val) * 1 + 0
    omega)

/-- The rows of the left operand, numbered through. -/
theorem cast_x {α : Type} (v : S8x2048x2304.Idx → α) (r : Fin 16384) (k : Fin 2304) :
    shapeCast S16384x2304 v shapeCasts_S8x2048x2304_S16384x2304 (ix2 r k)
      = v (ix3 ⟨r.val / 2048, by omega⟩ ⟨r.val % 2048, by omega⟩ k) :=
  shapeCast_apply _ _ _ _ (by
    rw [Shape.rowMajor_val_three, Shape.rowMajor_val_two]
    show (r.val / 2048 * 2048 + r.val % 2048) * 2304 + k.val = r.val * 2304 + k.val
    omega)

/-- The rows of the residual, numbered through. -/
theorem cast_res {α : Type} (v : S8x2048x9984.Idx → α) (r : Fin 16384) (k : Fin 9984) :
    shapeCast S16384x9984 v shapeCasts_S8x2048x9984_S16384x9984 (ix2 r k)
      = v (ix3 ⟨r.val / 2048, by omega⟩ ⟨r.val % 2048, by omega⟩ k) :=
  shapeCast_apply _ _ _ _ (by
    rw [Shape.rowMajor_val_three, Shape.rowMajor_val_two]
    show (r.val / 2048 * 2048 + r.val % 2048) * 9984 + k.val = r.val * 9984 + k.val
    omega)

/-- The rows of codes, by batch and position. -/
theorem cast_codes {α : Type} (v : S16384x9984.Idx → α) (b : Fin 8) (s : Fin 2048) (k : Fin 9984) :
    shapeCast S8x2048x9984 v shapeCasts_S16384x9984_S8x2048x9984 (ix3 b s k)
      = v (ix2 ⟨2048 * b.val + s.val, by omega⟩ k) :=
  shapeCast_apply _ _ _ _ (by
    rw [Shape.rowMajor_val_three, Shape.rowMajor_val_two]
    show (2048 * b.val + s.val) * 9984 + k.val = (b.val * 2048 + s.val) * 9984 + k.val
    omega)

/-- The codes the run returns are the array of codes the kernel writes, reshaped. -/
theorem tail_codes (c : Dev nD) :
    Pipeline.afterTail₀ cfgs (dats m) 0 (V0 m) [hostOps1] c main_v4
      = shapeCast S8x2048x9984 ((dats m 0 c).arrAt 5 cfg0.N) shapeCasts_S16384x9984_S8x2048x9984 := by
  unfold Pipeline.afterTail₀
  simp only [hostOps1, List.flatten_cons, List.flatten_nil, List.append_nil, List.cons_append, List.nil_append]
  after_results
  have h := Pipeline.withArrays_arr _ (by decide : Function.Injective (Pipeline.arrRef spec0)) c (V0 m c) (fun w => (dats m 0 c).arrAt w cfg0.N) 5
  exact congrArg (fun v => shapeCast S8x2048x9984 v shapeCasts_S16384x9984_S8x2048x9984) h

/-- The scales the run returns are the array of scales the kernel writes, reshaped. -/
theorem tail_scales (c : Dev nD) :
    Pipeline.afterTail₀ cfgs (dats m) 0 (V0 m) [hostOps1] c main_v5
      = shapeCast S8x2048x1 ((dats m 0 c).arrAt 6 cfg0.N) shapeCasts_S8x1x2048_S8x2048x1 := by
  unfold Pipeline.afterTail₀
  simp only [hostOps1, List.flatten_cons, List.flatten_nil, List.append_nil, List.cons_append, List.nil_append]
  after_results
  have h := Pipeline.withArrays_arr _ (by decide : Function.Injective (Pipeline.arrRef spec0)) c (V0 m c) (fun w => (dats m 0 c).arrAt w cfg0.N) 6
  exact congrArg (fun v => shapeCast S8x2048x1 v shapeCasts_S8x1x2048_S8x2048x1) h

end Cert.KernelIdeal.Own

end
-- ==== Proof.Pieces.lean ====
/- The pieces a grid point stores, each against one function of its block: a chunk of the product read through the point's
   windows, the running lane maxima, the quantised chunks and the scales. -/
module

public import proofs.«01_k».proof.Proof.Chunks
public import Idealize.ShloMosaic.Lib.Pipeline.Value
public import Idealize.ShloMosaic.Lib.Pipeline.ReadBack
public import Idealize.ShloMosaic.Lib.WholeRead

@[expose] public section

set_option maxRecDepth 16384

noncomputable section

namespace Cert.KernelIdeal.Own

open Cert.KernelIdeal.Gen Cert.Exponent Idealize.ShloMosaic Idealize.ShloMosaic.Pointwise

/-- Entry `(a, n)` of a block of the dequantised product, `0` past its last column. -/
def Yb (x0 : Vec Ideal S1x1x256 .f32) (x1 : Vec Ideal S256x2304 .fp8e4m3) (x2 : Vec Ideal S2304x9984 .fp8e4m3)
    (x3 : Vec Ideal S1x9984 .f32) (x4 : Vec Ideal S256x9984 .bf16) (a : Fin 256) (n : ℕ) : EReal :=
  if h : n < 9984 then
    (∑ k : Fin 2304, x1 (ix2 a k) * x2 (ix2 k ⟨n, h⟩)) * x0 (ix3 0 0 a) * x3 (ix2 0 ⟨n, h⟩) + x4 (ix2 a ⟨n, h⟩)
  else 0

/-- A row's `q`: the largest of its 128 lane maxima, over 448. -/
def Qb (v : Vec Ideal S256x128 .f32) (a : Fin 256) : EReal :=
  Finset.fold max (Ideal.ofBits .f32 0xFF800000#32) (fun l : Fin 128 => v (ix2 a l)) Finset.univ * Ideal.ofBits .f32 0x3B124925#32

/-- The place of an entry of a rectangle of unit stride, in two dimensions. -/
theorem emb_ix2 {m n p q : ℕ} (o1 o2 : ℕ) (h : ∀ a, ![o1, o2] a + ![p, q] a ≤ (⟨2, ![m, n]⟩ : Shape).size a) (a : Fin p) (b : Fin q)
    (ha : o1 + a.val < m) (hb : o2 + b.val < n) :
    (Rect.unit (s := ⟨2, ![m, n]⟩) ![o1, o2] ![p, q] h).emb (ix2 a b) = (ix2 ⟨o1 + a.val, ha⟩ ⟨o2 + b.val, hb⟩ : (⟨2, ![m, n]⟩ : Shape).Idx) := by
  funext c
  fin_cases c <;> apply Fin.ext
  · show o1 + 1 * a.val = o1 + a.val; omega
  · show o2 + 1 * b.val = o2 + b.val; omega

section

variable {arg2 : Memref sig .tc .vmem S256x2304 .fp8e4m3} (harg2 : arg2.IsWhole) {arg3 : Memref sig .tc .vmem S2304x9984 .fp8e4m3} (harg3 : arg3.IsWhole)
  {arg4 : Memref sig .tc .vmem S1x9984 .f32} (harg4 : arg4.IsWhole) {arg5 : Memref sig .tc .vmem S256x9984 .bf16} (harg5 : arg5.IsWhole)
  (x0 : Vec Ideal S1x1x256 .f32) (x1 : Vec Ideal S256x2304 .fp8e4m3) (x2 : Vec Ideal S2304x9984 .fp8e4m3)
  (x3 : Vec Ideal S1x9984 .f32) (x4 : Vec Ideal S256x9984 .bf16)
  (xc : Vec Ideal S256x128 .f32) (hf : ∀ (a : Fin 256) (l : Fin 128), xc (ix2 a l) = x0 (ix3 0 0 a))
  (off : ℕ) (i2 : ∀ a, ![0, 0] a + S256x2304.size a ≤ S256x2304.size a) (i3 : ∀ a, ![0, off] a + S2304x768.size a ≤ S2304x9984.size a)
  (i4 : ∀ a, ![0, off] a + S1x768.size a ≤ S1x9984.size a) (i5 : ∀ a, ![0, off] a + S256x768.size a ≤ S256x9984.size a)

include hf in
/-- The chunk at column `off`, from the windows' blocks. -/
theorem y_piece (a : Fin 256) (b : Fin 768) :
    k0_pay6 (F := Ideal) (View.readAt (Elt Ideal) arg2.view (Rect.unit (s := S256x2304) ![0, 0] S256x2304.size i2).toLoadRect (harg2.unread x1))
      (View.readAt (Elt Ideal) arg3.view (Rect.unit (s := S2304x9984) ![0, off] S2304x768.size i3).toLoadRect (harg3.unread x2)) xc
      (View.readAt (Elt Ideal) arg4.view (Rect.unit (s := S1x9984) ![0, off] S1x768.size i4).toLoadRect (harg4.unread x3))
      (View.readAt (Elt Ideal) arg5.view (Rect.unit (s := S256x9984) ![0, off] S256x768.size i5).toLoadRect (harg5.unread x4)) (ix2 a b)
    = Yb x0 x1 x2 x3 x4 a (off + b) := by
  have hb : off + b.val < 9984 := by
    have : off + 768 ≤ 9984 := i5 1
    omega
  rw [y_apply _ _ _ _ _ _ hf, Yb, dif_pos hb]
  have e1 : ∀ k, View.readAt (Elt Ideal) arg2.view (Rect.unit (s := S256x2304) ![0, 0] S256x2304.size i2).toLoadRect (harg2.unread x1) (ix2 a k)
      = x1 (ix2 a k) := fun k => by
    refine (harg2.readAt_unread x1 _ _).trans (congrArg x1 ((emb_ix2 0 0 i2 a k (by omega) (by omega)).trans ?_))
    congr 1 <;> exact Fin.ext (Nat.zero_add _)
  have e2 : ∀ k, View.readAt (Elt Ideal) arg3.view (Rect.unit (s := S2304x9984) ![0, off] S2304x768.size i3).toLoadRect (harg3.unread x2) (ix2 k b)
      = x2 (ix2 k ⟨off + b.val, hb⟩) := fun k => by
    refine (harg3.readAt_unread x2 _ _).trans (congrArg x2 ((emb_ix2 0 off i3 k b (by omega) hb).trans ?_))
    congr 1; exact Fin.ext (Nat.zero_add _)
  have e3 : View.readAt (Elt Ideal) arg4.view (Rect.unit (s := S1x9984) ![0, off] S1x768.size i4).toLoadRect (harg4.unread x3) (ix2 0 b)
      = x3 (ix2 0 ⟨off + b.val, hb⟩) := by
    exact (harg4.readAt_unread x3 _ _).trans (congrArg x3 ((emb_ix2 0 off i4 0 b (by decide) hb).trans rfl))
  have e4 : View.readAt (Elt Ideal) arg5.view (Rect.unit (s := S256x9984) ![0, off] S256x768.size i5).toLoadRect (harg5.unread x4) (ix2 a b)
      = x4 (ix2 a ⟨off + b.val, hb⟩) := by
    refine (harg5.readAt_unread x4 _ _).trans (congrArg x4 ((emb_ix2 0 off i5 a b (by omega) hb).trans ?_))
    congr 1; exact Fin.ext (Nat.zero_add _)
  simp only [e1, e2, e3, e4]

/-- A block of the product as a function of its indices. -/
def YG (j : S256x9984.Idx) : EReal := Yb x0 x1 x2 x3 x4 (j 0) (j 1).val

include hf in
/-- The chunk at column `off` as the kernel stores it. -/
theorem y_stored_piece (x : S256x768.Idx) :
    k0_pay7 (F := Ideal) (View.readAt (Elt Ideal) arg2.view (Rect.unit (s := S256x2304) ![0, 0] S256x2304.size i2).toLoadRect (harg2.unread x1))
      (View.readAt (Elt Ideal) arg3.view (Rect.unit (s := S2304x9984) ![0, off] S2304x768.size i3).toLoadRect (harg3.unread x2)) xc
      (View.readAt (Elt Ideal) arg4.view (Rect.unit (s := S1x9984) ![0, off] S1x768.size i4).toLoadRect (harg4.unread x3))
      (View.readAt (Elt Ideal) arg5.view (Rect.unit (s := S256x9984) ![0, off] S256x768.size i5).toLoadRect (harg5.unread x4)) x
    = YG x0 x1 x2 x3 x4 ((Rect.unit (s := S256x9984) ![0, off] S256x768.size i5).emb x) := by
  obtain ⟨a, b, rfl⟩ : ∃ (a : Fin 256) (b : Fin 768), x = ix2 a b := ⟨x 0, x 1, eq_ix2 x⟩
  have hb : off + b.val < 9984 := by
    have : off + 768 ≤ 9984 := i5 1
    omega
  rw [y_stored, y_piece harg2 harg3 harg4 harg5 x0 x1 x2 x3 x4 xc hf off i2 i3 i4 i5 a b]
  refine Eq.symm ((congrArg (YG x0 x1 x2 x3 x4) (emb_ix2 0 off i5 a b (by omega) hb)).trans ?_)
  show Yb x0 x1 x2 x3 x4 ⟨0 + a.val, _⟩ (off + b.val) = _
  congr 1; exact Fin.ext (Nat.zero_add _)

include hf in
/-- The lane maxima after the first chunk. -/
theorem first_piece (h : off = 768 * 0) (a : Fin 256) (l : Fin 128) :
    k0_pay9 (F := Ideal) (k0_pay8 (View.readAt (Elt Ideal) arg2.view (Rect.unit (s := S256x2304) ![0, 0] S256x2304.size i2).toLoadRect (harg2.unread x1))
      (View.readAt (Elt Ideal) arg3.view (Rect.unit (s := S2304x9984) ![0, off] S2304x768.size i3).toLoadRect (harg3.unread x2)) xc
      (View.readAt (Elt Ideal) arg4.view (Rect.unit (s := S1x9984) ![0, off] S1x768.size i4).toLoadRect (harg4.unread x3))
      (View.readAt (Elt Ideal) arg5.view (Rect.unit (s := S256x9984) ![0, off] S256x768.size i5).toLoadRect (harg5.unread x4))) (ix2 a l)
    = lanes (Yb x0 x1 x2 x3 x4 a) 0 l := by
  subst h
  exact lanes_first _ _ _ _ _ (Yb x0 x1 x2 x3 x4) (y_piece harg2 harg3 harg4 harg5 x0 x1 x2 x3 x4 xc hf _ i2 i3 i4 i5) a l

include hf in
/-- The lane maxima after one more chunk. -/
theorem step_piece (n : ℕ) (h : off = 768 * (n + 1)) (p : Vec Ideal S256x128 .f32)
    (hp : ∀ (a : Fin 256) (l : Fin 128), p (ix2 a l) = lanes (Yb x0 x1 x2 x3 x4 a) n l) (a : Fin 256) (l : Fin 128) :
    k0_pay13 (F := Ideal) (k0_pay12 (View.readAt (Elt Ideal) arg2.view (Rect.unit (s := S256x2304) ![0, 0] S256x2304.size i2).toLoadRect (harg2.unread x1))
      (View.readAt (Elt Ideal) arg3.view (Rect.unit (s := S2304x9984) ![0, off] S2304x768.size i3).toLoadRect (harg3.unread x2)) xc
      (View.readAt (Elt Ideal) arg4.view (Rect.unit (s := S1x9984) ![0, off] S1x768.size i4).toLoadRect (harg4.unread x3))
      (View.readAt (Elt Ideal) arg5.view (Rect.unit (s := S256x9984) ![0, off] S256x768.size i5).toLoadRect (harg5.unread x4))) p (ix2 a l)
    = lanes (Yb x0 x1 x2 x3 x4 a) (n + 1) l := by
  subst h
  exact lanes_step _ _ _ _ _ p (Yb x0 x1 x2 x3 x4) n (y_piece harg2 harg3 harg4 harg5 x0 x1 x2 x3 x4 xc hf _ i2 i3 i4 i5) hp a l

end

section

variable {arg8 : Memref sig .tc .vmem S256x9984 .f32} (harg8 : arg8.IsWhole) (xs0 : Vec Ideal S256x9984 .f32) (xs2 : Vec Ideal S256x128 .f32)
  (v : Vec Ideal S256x128 .f32) (hv : ∀ (a : Fin 256) (l : Fin 128), v (ix2 a l) = invWord (fieldWord (Qb xs2 a)))
  (off : ℕ) (i5 : ∀ a, ![0, off] a + S256x768.size a ≤ S256x9984.size a)

/-- A block's codes, from the product and the lane maxima the point before left. -/
def CG (j : S256x9984.Idx) : EReal :=
  min (Ideal.ofBits .f32 0x43E00000#32) (max (Ideal.ofBits .f32 0xC3E00000#32) (xs0 j * invWord (fieldWord (Qb xs2 (j 0)))))

/-- A block's scales. -/
def SG (j : S1x1x256.Idx) : EReal := scaleWord (fieldWord (Qb xs2 (j 2)))

include hv in
/-- The chunk of codes at column `off`. -/
theorem code_piece (x : S256x768.Idx) :
    k0_pay162 (F := Ideal) v (View.readAt (Elt Ideal) arg8.view (Rect.unit (s := S256x9984) ![0, off] S256x768.size i5).toLoadRect (harg8.unread xs0)) x
    = CG xs0 xs2 ((Rect.unit (s := S256x9984) ![0, off] S256x768.size i5).emb x) := by
  obtain ⟨a, b, rfl⟩ : ∃ (a : Fin 256) (b : Fin 768), x = ix2 a b := ⟨x 0, x 1, eq_ix2 x⟩
  have hb : off + b.val < 9984 := by
    have : off + 768 ≤ 9984 := i5 1
    omega
  rw [codes_apply _ _ _ hv]
  unfold CG
  have e0 : ((Rect.unit (s := S256x9984) ![0, off] S256x768.size i5).emb (ix2 a b) : S256x9984.Idx) 0 = a :=
    (congrFun (emb_ix2 0 off i5 a b (by omega) hb) 0).trans (Fin.ext (Nat.zero_add _))
  rw [e0, harg8.readAt_unread]
  rfl

variable {arg10 : Memref sig .tc .vmem S256x128 .f32} (harg10 : arg10.IsWhole)
  (i0 : ∀ a, ![0, 0] a + S128x128.size a ≤ S256x128.size a) (i1 : ∀ a, ![128, 0] a + S128x128.size a ≤ S256x128.size a)

/-- The scaled row maximum, for the first 128 rows. -/
theorem rowQ_lo (a : Fin 128) :
    rowQ (View.readAt (Elt Ideal) arg10.view (Rect.unit (s := S256x128) ![0, 0] S128x128.size i0).toLoadRect (harg10.unread xs2)) a
      = Qb xs2 ⟨a.val, by omega⟩ := by
  unfold rowQ Qb
  have e : ∀ l, View.readAt (Elt Ideal) arg10.view (Rect.unit (s := S256x128) ![0, 0] S128x128.size i0).toLoadRect (harg10.unread xs2) (ix2 a l)
      = xs2 (ix2 ⟨a.val, by omega⟩ l) := fun l => by
    refine (harg10.readAt_unread xs2 _ _).trans (congrArg xs2 ((emb_ix2 0 0 i0 a l (by omega) (by omega)).trans ?_))
    congr 1 <;> exact Fin.ext (Nat.zero_add _)
  simp only [e]

/-- The scaled row maximum, for the last 128 rows. -/
theorem rowQ_hi (a : Fin 128) :
    rowQ (View.readAt (Elt Ideal) arg10.view (Rect.unit (s := S256x128) ![128, 0] S128x128.size i1).toLoadRect (harg10.unread xs2)) a
      = Qb xs2 ⟨128 + a.val, by omega⟩ := by
  unfold rowQ Qb
  have e : ∀ l, View.readAt (Elt Ideal) arg10.view (Rect.unit (s := S256x128) ![128, 0] S128x128.size i1).toLoadRect (harg10.unread xs2) (ix2 a l)
      = xs2 (ix2 ⟨128 + a.val, by omega⟩ l) := fun l => by
    refine (harg10.readAt_unread xs2 _ _).trans (congrArg xs2 ((emb_ix2 128 0 i1 a l (by omega) (by omega)).trans ?_))
    congr 1; exact Fin.ext (Nat.zero_add _)
  simp only [e]

/-- The inverse scales, in every lane, as a function of a block's indices. -/
def IG (j : S256x128.Idx) : EReal := invWord (fieldWord (Qb xs2 (j 0)))

/-- The inverse scales stored, for the first 128 rows. -/
theorem inv_lo (x : S128x128.Idx) :
    invV (F := Ideal) (fieldV (k0_pay142 (View.readAt (Elt Ideal) arg10.view (Rect.unit (s := S256x128) ![0, 0] S128x128.size i0).toLoadRect (harg10.unread xs2)))) x
      = IG xs2 ((Rect.unit (s := S256x128) ![0, 0] S128x128.size i0).emb x) := by
  obtain ⟨a, b, rfl⟩ : ∃ (a : Fin 128) (b : Fin 128), x = ix2 a b := ⟨x 0, x 1, eq_ix2 x⟩
  rw [invV_apply, fieldV_apply, q_apply, rowQ_lo]
  unfold IG
  rw [show ((Rect.unit (s := S256x128) ![0, 0] S128x128.size i0).emb (ix2 a b) : S256x128.Idx) 0 = (⟨a.val, by omega⟩ : Fin 256) from
    (congrFun (emb_ix2 0 0 i0 a b (by omega) (by omega)) 0).trans (Fin.ext (Nat.zero_add _))]

/-- The inverse scales stored, for the last 128 rows. -/
theorem inv_hi (x : S128x128.Idx) :
    invV (F := Ideal) (fieldV (k0_pay142 (View.readAt (Elt Ideal) arg10.view (Rect.unit (s := S256x128) ![128, 0] S128x128.size i1).toLoadRect (harg10.unread xs2)))) x
      = IG xs2 ((Rect.unit (s := S256x128) ![128, 0] S128x128.size i1).emb x) := by
  obtain ⟨a, b, rfl⟩ : ∃ (a : Fin 128) (b : Fin 128), x = ix2 a b := ⟨x 0, x 1, eq_ix2 x⟩
  rw [invV_apply, fieldV_apply, q_apply, rowQ_hi]
  unfold IG
  rw [show ((Rect.unit (s := S256x128) ![128, 0] S128x128.size i1).emb (ix2 a b) : S256x128.Idx) 0 = (⟨128 + a.val, by omega⟩ : Fin 256) from
    congrFun (emb_ix2 128 0 i1 a b (by omega) (by omega)) 0]

/-- The scales stored, for the first 128 rows. -/
theorem scale_lo (k0 : ∀ a, ![0, 0, 0] a + S1x1x128.size a ≤ S1x1x256.size a) (x : S1x1x128.Idx) :
    scaleV (F := Ideal) (fieldV (k0_pay142 (View.readAt (Elt Ideal) arg10.view (Rect.unit (s := S256x128) ![0, 0] S128x128.size i0).toLoadRect (harg10.unread xs2)))) x
      = SG xs2 ((Rect.unit (s := S1x1x256) ![0, 0, 0] S1x1x128.size k0).emb x) := by
  obtain ⟨p, q, a, rfl⟩ : ∃ (p q : Fin 1) (a : Fin 128), x = ix3 p q a := ⟨x 0, x 1, x 2, eq_ix3 x⟩
  obtain rfl := Subsingleton.elim p 0
  obtain rfl := Subsingleton.elim q 0
  rw [scaleV_apply, fieldV_apply, q_apply, rowQ_lo]
  unfold SG
  rw [show ((Rect.unit (s := S1x1x256) ![0, 0, 0] S1x1x128.size k0).emb (ix3 0 0 a) : S1x1x256.Idx) 2 = (⟨a.val, by omega⟩ : Fin 256) from
    Fin.ext (by show 0 + 1 * a.val = a.val; omega)]

/-- The scales stored, for the last 128 rows. -/
theorem scale_hi (k1 : ∀ a, ![0, 0, 128] a + S1x1x128.size a ≤ S1x1x256.size a) (x : S1x1x128.Idx) :
    scaleV (F := Ideal) (fieldV (k0_pay142 (View.readAt (Elt Ideal) arg10.view (Rect.unit (s := S256x128) ![128, 0] S128x128.size i1).toLoadRect (harg10.unread xs2)))) x
      = SG xs2 ((Rect.unit (s := S1x1x256) ![0, 0, 128] S1x1x128.size k1).emb x) := by
  obtain ⟨p, q, a, rfl⟩ : ∃ (p q : Fin 1) (a : Fin 128), x = ix3 p q a := ⟨x 0, x 1, x 2, eq_ix3 x⟩
  obtain rfl := Subsingleton.elim p 0
  obtain rfl := Subsingleton.elim q 0
  rw [scaleV_apply, fieldV_apply, q_apply, rowQ_hi]
  unfold SG
  rw [show ((Rect.unit (s := S1x1x256) ![0, 0, 128] S1x1x128.size k1).emb (ix3 0 0 a) : S1x1x256.Idx) 2 = (⟨128 + a.val, by omega⟩ : Fin 256) from
    Fin.ext (by show 128 + 1 * a.val = 128 + a.val; omega)]

end

section

variable {arg1 : Memref sig .tc .vmem S1x1x256 .f32} (harg1 : arg1.IsWhole) (x0 : Vec Ideal S1x1x256 .f32)

/-- The column of row scales, in every lane, as a function of its indices. -/
def XG (j : S256x128.Idx) : EReal := x0 (ix3 0 0 (j 0))

/-- The activation scales as a column, for the first 128 rows. -/
theorem xc_lo (k0 : ∀ a, ![0, 0, 0] a + S1x1x128.size a ≤ S1x1x256.size a) (i0 : ∀ a, ![0, 0] a + S128x128.size a ≤ S256x128.size a)
    (x : S128x128.Idx) :
    k0_pay4 (F := Ideal) (View.readAt (Elt Ideal) arg1.view (Rect.unit (s := S1x1x256) ![0, 0, 0] S1x1x128.size k0).toLoadRect (harg1.unread x0)) x
      = XG x0 ((Rect.unit (s := S256x128) ![0, 0] S128x128.size i0).emb x) := by
  obtain ⟨a, b, rfl⟩ : ∃ (a : Fin 128) (b : Fin 128), x = ix2 a b := ⟨x 0, x 1, eq_ix2 x⟩
  rw [xc_apply, harg1.readAt_unread]
  unfold XG
  refine congrArg x0 ?_
  funext c
  fin_cases c <;> apply Fin.ext <;> rfl

/-- The activation scales as a column, for the last 128 rows. -/
theorem xc_hi (k1 : ∀ a, ![0, 0, 128] a + S1x1x128.size a ≤ S1x1x256.size a) (i1 : ∀ a, ![128, 0] a + S128x128.size a ≤ S256x128.size a)
    (x : S128x128.Idx) :
    k0_pay4 (F := Ideal) (View.readAt (Elt Ideal) arg1.view (Rect.unit (s := S1x1x256) ![0, 0, 128] S1x1x128.size k1).toLoadRect (harg1.unread x0)) x
      = XG x0 ((Rect.unit (s := S256x128) ![128, 0] S128x128.size i1).emb x) := by
  obtain ⟨a, b, rfl⟩ : ∃ (a : Fin 128) (b : Fin 128), x = ix2 a b := ⟨x 0, x 1, eq_ix2 x⟩
  rw [xc_apply, harg1.readAt_unread]
  unfold XG
  refine congrArg x0 ?_
  funext c
  fin_cases c <;> apply Fin.ext <;> rfl

end

/-- A load of the whole of a 256-row block stored as two halves that agree with `G` reads `G`. -/
theorem halves {arg : Memref sig .tc .vmem S256x128 .f32} (G : S256x128.Idx → EReal)
    (i0 : ∀ a, ![0, 0] a + S128x128.size a ≤ S256x128.size a) (i1 : ∀ a, ![128, 0] a + S128x128.size a ≤ S256x128.size a)
    (w0 w1 : S128x128.Idx → EReal) (h0 : ∀ x : S128x128.Idx, w0 x = G ((Rect.unit (s := S256x128) ![0, 0] S128x128.size i0).emb x))
    (h1 : ∀ x : S128x128.Idx, w1 x = G ((Rect.unit (s := S256x128) ![128, 0] S128x128.size i1).emb x))
    (i : ∀ a, ![0, 0] a + S256x128.size a ≤ S256x128.size a) (a : Fin 256) (l : Fin 128) :
    arg.view.readCov (Val := Elt Ideal) [⟨Rect.unit (s := S256x128) ![128, 0] S128x128.size i1, w1⟩, ⟨Rect.unit (s := S256x128) ![0, 0] S128x128.size i0, w0⟩]
      (Rect.unit (s := S256x128) ![0, 0] S256x128.size i).toLoadRect (ix2 a l) = G (ix2 a l) := by
  rw [View.readCov_eq_canon']
  have e : (Rect.unit (s := S256x128) ![0, 0] S256x128.size i).toLoadRect.idx (ix2 a l) = ix2 a l := by
    refine (emb_ix2 0 0 i a l (by omega) (by omega)).trans ?_
    congr 1 <;> exact Fin.ext (Nat.zero_add _)
  show View.canon _ ((Rect.unit (s := S256x128) ![0, 0] S256x128.size i).toLoadRect.idx (ix2 a l)) = _
  rw [e]
  have hP : View.PiecesOf (Val := Elt Ideal) (e := .f32) G [⟨Rect.unit (s := S256x128) ![128, 0] S128x128.size i1, w1⟩,
      ⟨Rect.unit (s := S256x128) ![0, 0] S128x128.size i0, w0⟩] := ⟨h1, h0, trivial⟩
  refine View.canon_apply_of_pieces (Val := Elt Ideal) (e := .f32) G _ hP.mem _ ?_
  by_cases ha : a.val < 128
  · refine ⟨_, List.mem_cons_of_mem _ List.mem_cons_self, ?_⟩
    refine (Rect.mem_set_unit (inb := i0)).mpr fun c => ?_
    fin_cases c
    · show 0 ≤ a.val ∧ a.val < 0 + 128; omega
    · show 0 ≤ l.val ∧ l.val < 0 + 128; omega
  · refine ⟨_, List.mem_cons_self, (Rect.mem_set_unit (inb := i1)).mpr fun c => ?_⟩
    fin_cases c
    · show 128 ≤ a.val ∧ a.val < 128 + 128; omega
    · show 0 ≤ l.val ∧ l.val < 0 + 128; omega

end Cert.KernelIdeal.Own

end
-- ==== Proof.BlockA.lean ====
/- What the first grid point leaves: a block of the product and its lane maxima. -/
module

public import proofs.«01_k».proof.Proof.IdealFrame.Frame
public import proofs.«01_k».proof.Proof.Pieces

@[expose] public section

set_option maxRecDepth 16384

noncomputable section

namespace Cert.KernelIdeal.Own

open Cert.KernelIdeal.Gen Cert.Exponent Idealize.ShloMosaic Idealize.ShloMosaic.Pointwise

variable (c : Dev nD) (i : grid0.Coords)
  (arg1 : Memref sig .tc .vmem S1x1x256 .f32) (harg1 : arg1.IsWhole)
  (arg2 : Memref sig .tc .vmem S256x2304 .fp8e4m3) (harg2 : arg2.IsWhole)
  (arg3 : Memref sig .tc .vmem S2304x9984 .fp8e4m3) (harg3 : arg3.IsWhole)
  (arg4 : Memref sig .tc .vmem S1x9984 .f32) (harg4 : arg4.IsWhole)
  (arg5 : Memref sig .tc .vmem S256x9984 .bf16) (harg5 : arg5.IsWhole)
  (arg6 : Memref sig .tc .vmem S256x9984 .fp8e4m3) (harg6 : arg6.IsWhole)
  (arg7 : Memref sig .tc .vmem S1x1x256 .f32) (harg7 : arg7.IsWhole)
  (arg8 : Memref sig .tc .vmem S256x9984 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (hc0 : cond0_0 i) (hc1 : ¬cond0_1 i) (hc2 : ¬cond0_2 i)
  (x0 : Vec Ideal S1x1x256 .f32) (x1 : Vec Ideal S256x2304 .fp8e4m3) (x2 : Vec Ideal S2304x9984 .fp8e4m3)
  (x3 : Vec Ideal S1x9984 .f32) (x4 : Vec Ideal S256x9984 .bf16)
  (xs0 : Vec Ideal S256x9984 .f32) (xs2 : Vec Ideal S256x128 .f32)

/-- The column of row scales of the point's block. -/
theorem A_v31 (a : Fin 256) (l : Fin 128) :
    kernelRun0_A.sl.v31 (F := Ideal) c arg1 harg1 arg9 x0 (ix2 a l) = x0 (ix3 0 0 a) :=
  halves (XG x0) inb_S256x128_S128x128_0_0 inb_S256x128_S128x128_128_0 _ _
    (xc_lo harg1 x0 inb_S1x1x256_S1x1x128_0_0_0 _) (xc_hi harg1 x0 inb_S1x1x256_S1x1x128_0_0_128 _) inb_S256x128_S256x128_0_0 a l

/-- The lane maxima after chunk 0. -/
theorem A_v88 (a : Fin 256) (l : Fin 128) :
    kernelRun0_A.sl.v88 (F := Ideal) c arg1 harg1 arg2 harg2 arg3 harg3 arg4 harg4 arg5 harg5 arg9 arg10 x0 x1 x2 x3 x4 (ix2 a l) = lanes (Yb x0 x1 x2 x3 x4 a) 0 l := by
  rw [kernelRun0_A.sl.v88, kernelRun0_A.sl.HS2_1, View.readCov_cons_toLoadRect]
  exact first_piece harg2 harg3 harg4 harg5 x0 x1 x2 x3 x4 _ (A_v31 c arg1 harg1 arg9 x0) 0 inb_S256x2304_S256x2304_0_0 inb_S2304x9984_S2304x768_0_0 inb_S1x9984_S1x768_0_0 inb_S256x9984_S256x768_0_0 rfl a l

/-- The lane maxima after chunk 1. -/
theorem A_v122 (a : Fin 256) (l : Fin 128) :
    kernelRun0_A.sl.v122 (F := Ideal) c arg1 harg1 arg2 harg2 arg3 harg3 arg4 harg4 arg5 harg5 arg9 arg10 x0 x1 x2 x3 x4 (ix2 a l) = lanes (Yb x0 x1 x2 x3 x4 a) 1 l := by
  rw [kernelRun0_A.sl.v122, kernelRun0_A.sl.HS2_2, View.readCov_cons_toLoadRect]
  exact step_piece harg2 harg3 harg4 harg5 x0 x1 x2 x3 x4 _ (A_v31 c arg1 harg1 arg9 x0) 768 inb_S256x2304_S256x2304_0_0 inb_S2304x9984_S2304x768_0_768 inb_S1x9984_S1x768_0_768 inb_S256x9984_S256x768_0_768
    0 rfl _ (A_v88 c arg1 harg1 arg2 harg2 arg3 harg3 arg4 harg4 arg5 harg5 arg9 arg10 x0 x1 x2 x3 x4) a l

/-- The lane maxima after chunk 2. -/
theorem A_v156 (a : Fin 256) (l : Fin 128) :
    kernelRun0_A.sl.v156 (F := Ideal) c arg1 harg1 arg2 harg2 arg3 harg3 arg4 harg4 arg5 harg5 arg9 arg10 x0 x1 x2 x3 x4 (ix2 a l) = lanes (Yb x0 x1 x2 x3 x4 a) 2 l := by
  rw [kernelRun0_A.sl.v156, kernelRun0_A.sl.HS2_3, View.readCov_cons_toLoadRect]
  exact step_piece harg2 harg3 harg4 harg5 x0 x1 x2 x3 x4 _ (A_v31 c arg1 harg1 arg9 x0) 1536 inb_S256x2304_S256x2304_0_0 inb_S2304x9984_S2304x768_0_1536 inb_S1x9984_S1x768_0_1536 inb_S256x9984_S256x768_0_1536
    1 rfl _ (A_v122 c arg1 harg1 arg2 harg2 arg3 harg3 arg4 harg4 arg5 harg5 arg9 arg10 x0 x1 x2 x3 x4) a l

/-- The lane maxima after chunk 3. -/
theorem A_v190 (a : Fin 256) (l : Fin 128) :
    kernelRun0_A.sl.v190 (F := Ideal) c arg1 harg1 arg2 harg2 arg3 harg3 arg4 harg4 arg5 harg5 arg9 arg10 x0 x1 x2 x3 x4 (ix2 a l) = lanes (Yb x0 x1 x2 x3 x4 a) 3 l := by
  rw [kernelRun0_A.sl.v190, kernelRun0_A.sl.HS2_4, View.readCov_cons_toLoadRect]
  exact step_piece harg2 harg3 harg4 harg5 x0 x1 x2 x3 x4 _ (A_v31 c arg1 harg1 arg9 x0) 2304 inb_S256x2304_S256x2304_0_0 inb_S2304x9984_S2304x768_0_2304 inb_S1x9984_S1x768_0_2304 inb_S256x9984_S256x768_0_2304
    2 rfl _ (A_v156 c arg1 harg1 arg2 harg2 arg3 harg3 arg4 harg4 arg5 harg5 arg9 arg10 x0 x1 x2 x3 x4) a l

/-- The lane maxima after chunk 4. -/
theorem A_v224 (a : Fin 256) (l : Fin 128) :
    kernelRun0_A.sl.v224 (F := Ideal) c arg1 harg1 arg2 harg2 arg3 harg3 arg4 harg4 arg5 harg5 arg9 arg10 x0 x1 x2 x3 x4 (ix2 a l) = lanes (Yb x0 x1 x2 x3 x4 a) 4 l := by
  rw [kernelRun0_A.sl.v224, kernelRun0_A.sl.HS2_5, View.readCov_cons_toLoadRect]
  exact step_piece harg2 harg3 harg4 harg5 x0 x1 x2 x3 x4 _ (A_v31 c arg1 harg1 arg9 x0) 3072 inb_S256x2304_S256x2304_0_0 inb_S2304x9984_S2304x768_0_3072 inb_S1x9984_S1x768_0_3072 inb_S256x9984_S256x768_0_3072
    3 rfl _ (A_v190 c arg1 harg1 arg2 harg2 arg3 harg3 arg4 harg4 arg5 harg5 arg9 arg10 x0 x1 x2 x3 x4) a l

/-- The lane maxima after chunk 5. -/
theorem A_v258 (a : Fin 256) (l : Fin 128) :
    kernelRun0_A.sl.v258 (F := Ideal) c arg1 harg1 arg2 harg2 arg3 harg3 arg4 harg4 arg5 harg5 arg9 arg10 x0 x1 x2 x3 x4 (ix2 a l) = lanes (Yb x0 x1 x2 x3 x4 a) 5 l := by
  rw [kernelRun0_A.sl.v258, kernelRun0_A.sl.HS2_6, View.readCov_cons_toLoadRect]
  exact step_piece harg2 harg3 harg4 harg5 x0 x1 x2 x3 x4 _ (A_v31 c arg1 harg1 arg9 x0) 3840 inb_S256x2304_S256x2304_0_0 inb_S2304x9984_S2304x768_0_3840 inb_S1x9984_S1x768_0_3840 inb_S256x9984_S256x768_0_3840
    4 rfl _ (A_v224 c arg1 harg1 arg2 harg2 arg3 harg3 arg4 harg4 arg5 harg5 arg9 arg10 x0 x1 x2 x3 x4) a l

/-- The lane maxima after chunk 6. -/
theorem A_v292 (a : Fin 256) (l : Fin 128) :
    kernelRun0_A.sl.v292 (F := Ideal) c arg1 harg1 arg2 harg2 arg3 harg3 arg4 harg4 arg5 harg5 arg9 arg10 x0 x1 x2 x3 x4 (ix2 a l) = lanes (Yb x0 x1 x2 x3 x4 a) 6 l := by
  rw [kernelRun0_A.sl.v292, kernelRun0_A.sl.HS2_7, View.readCov_cons_toLoadRect]
  exact step_piece harg2 harg3 harg4 harg5 x0 x1 x2 x3 x4 _ (A_v31 c arg1 harg1 arg9 x0) 4608 inb_S256x2304_S256x2304_0_0 inb_S2304x9984_S2304x768_0_4608 inb_S1x9984_S1x768_0_4608 inb_S256x9984_S256x768_0_4608
    5 rfl _ (A_v258 c arg1 harg1 arg2 harg2 arg3 harg3 arg4 harg4 arg5 harg5 arg9 arg10 x0 x1 x2 x3 x4) a l

/-- The lane maxima after chunk 7. -/
theorem A_v326 (a : Fin 256) (l : Fin 128) :
    kernelRun0_A.sl.v326 (F := Ideal) c arg1 harg1 arg2 harg2 arg3 harg3 arg4 harg4 arg5 harg5 arg9 arg10 x0 x1 x2 x3 x4 (ix2 a l) = lanes (Yb x0 x1 x2 x3 x4 a) 7 l := by
  rw [kernelRun0_A.sl.v326, kernelRun0_A.sl.HS2_8, View.readCov_cons_toLoadRect]
  exact step_piece harg2 harg3 harg4 harg5 x0 x1 x2 x3 x4 _ (A_v31 c arg1 harg1 arg9 x0) 5376 inb_S256x2304_S256x2304_0_0 inb_S2304x9984_S2304x768_0_5376 inb_S1x9984_S1x768_0_5376 inb_S256x9984_S256x768_0_5376
    6 rfl _ (A_v292 c arg1 harg1 arg2 harg2 arg3 harg3 arg4 harg4 arg5 harg5 arg9 arg10 x0 x1 x2 x3 x4) a l

/-- The lane maxima after chunk 8. -/
theorem A_v360 (a : Fin 256) (l : Fin 128) :
    kernelRun0_A.sl.v360 (F := Ideal) c arg1 harg1 arg2 harg2 arg3 harg3 arg4 harg4 arg5 harg5 arg9 arg10 x0 x1 x2 x3 x4 (ix2 a l) = lanes (Yb x0 x1 x2 x3 x4 a) 8 l := by
  rw [kernelRun0_A.sl.v360, kernelRun0_A.sl.HS2_9, View.readCov_cons_toLoadRect]
  exact step_piece harg2 harg3 harg4 harg5 x0 x1 x2 x3 x4 _ (A_v31 c arg1 harg1 arg9 x0) 6144 inb_S256x2304_S256x2304_0_0 inb_S2304x9984_S2304x768_0_6144 inb_S1x9984_S1x768_0_6144 inb_S256x9984_S256x768_0_6144
    7 rfl _ (A_v326 c arg1 harg1 arg2 harg2 arg3 harg3 arg4 harg4 arg5 harg5 arg9 arg10 x0 x1 x2 x3 x4) a l

/-- The lane maxima after chunk 9. -/
theorem A_v394 (a : Fin 256) (l : Fin 128) :
    kernelRun0_A.sl.v394 (F := Ideal) c arg1 harg1 arg2 harg2 arg3 harg3 arg4 harg4 arg5 harg5 arg9 arg10 x0 x1 x2 x3 x4 (ix2 a l) = lanes (Yb x0 x1 x2 x3 x4 a) 9 l := by
  rw [kernelRun0_A.sl.v394, kernelRun0_A.sl.HS2_10, View.readCov_cons_toLoadRect]
  exact step_piece harg2 harg3 harg4 harg5 x0 x1 x2 x3 x4 _ (A_v31 c arg1 harg1 arg9 x0) 6912 inb_S256x2304_S256x2304_0_0 inb_S2304x9984_S2304x768_0_6912 inb_S1x9984_S1x768_0_6912 inb_S256x9984_S256x768_0_6912
    8 rfl _ (A_v360 c arg1 harg1 arg2 harg2 arg3 harg3 arg4 harg4 arg5 harg5 arg9 arg10 x0 x1 x2 x3 x4) a l

/-- The lane maxima after chunk 10. -/
theorem A_v428 (a : Fin 256) (l : Fin 128) :
    kernelRun0_A.sl.v428 (F := Ideal) c arg1 harg1 arg2 harg2 arg3 harg3 arg4 harg4 arg5 harg5 arg9 arg10 x0 x1 x2 x3 x4 (ix2 a l) = lanes (Yb x0 x1 x2 x3 x4 a) 10 l := by
  rw [kernelRun0_A.sl.v428, kernelRun0_A.sl.HS2_11, View.readCov_cons_toLoadRect]
  exact step_piece harg2 harg3 harg4 harg5 x0 x1 x2 x3 x4 _ (A_v31 c arg1 harg1 arg9 x0) 7680 inb_S256x2304_S256x2304_0_0 inb_S2304x9984_S2304x768_0_7680 inb_S1x9984_S1x768_0_7680 inb_S256x9984_S256x768_0_7680
    9 rfl _ (A_v394 c arg1 harg1 arg2 harg2 arg3 harg3 arg4 harg4 arg5 harg5 arg9 arg10 x0 x1 x2 x3 x4) a l

/-- The lane maxima after chunk 11. -/
theorem A_v462 (a : Fin 256) (l : Fin 128) :
    kernelRun0_A.sl.v462 (F := Ideal) c arg1 harg1 arg2 harg2 arg3 harg3 arg4 harg4 arg5 harg5 arg9 arg10 x0 x1 x2 x3 x4 (ix2 a l) = lanes (Yb x0 x1 x2 x3 x4 a) 11 l := by
  rw [kernelRun0_A.sl.v462, kernelRun0_A.sl.HS2_12, View.readCov_cons_toLoadRect]
  exact step_piece harg2 harg3 harg4 harg5 x0 x1 x2 x3 x4 _ (A_v31 c arg1 harg1 arg9 x0) 8448 inb_S256x2304_S256x2304_0_0 inb_S2304x9984_S2304x768_0_8448 inb_S1x9984_S1x768_0_8448 inb_S256x9984_S256x768_0_8448
    10 rfl _ (A_v428 c arg1 harg1 arg2 harg2 arg3 harg3 arg4 harg4 arg5 harg5 arg9 arg10 x0 x1 x2 x3 x4) a l

/-- The block of the product the point leaves. -/
theorem sout_A_0 : sout0_A_0 c i arg1 harg1 arg2 harg2 arg3 harg3 arg4 harg4 arg5 harg5 arg6 harg6 arg7 harg7 arg8 harg8 arg9 harg9 arg10 harg10 arg11 harg11 hc0 hc1 hc2 x0 x1 x2 x3 x4 = YG x0 x1 x2 x3 x4 := by
  have hP : View.PiecesOf (Val := Elt Ideal) (e := .f32) (YG x0 x1 x2 x3 x4) (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1 := by
    unfold kernelRun0_A
    dsimp only
    exact ⟨y_stored_piece harg2 harg3 harg4 harg5 x0 x1 x2 x3 x4 _ (A_v31 c arg1 harg1 arg9 x0) 9216 inb_S256x2304_S256x2304_0_0 inb_S2304x9984_S2304x768_0_9216 inb_S1x9984_S1x768_0_9216 inb_S256x9984_S256x768_0_9216,
      y_stored_piece harg2 harg3 harg4 harg5 x0 x1 x2 x3 x4 _ (A_v31 c arg1 harg1 arg9 x0) 8448 inb_S256x2304_S256x2304_0_0 inb_S2304x9984_S2304x768_0_8448 inb_S1x9984_S1x768_0_8448 inb_S256x9984_S256x768_0_8448,
      y_stored_piece harg2 harg3 harg4 harg5 x0 x1 x2 x3 x4 _ (A_v31 c arg1 harg1 arg9 x0) 7680 inb_S256x2304_S256x2304_0_0 inb_S2304x9984_S2304x768_0_7680 inb_S1x9984_S1x768_0_7680 inb_S256x9984_S256x768_0_7680,
      y_stored_piece harg2 harg3 harg4 harg5 x0 x1 x2 x3 x4 _ (A_v31 c arg1 harg1 arg9 x0) 6912 inb_S256x2304_S256x2304_0_0 inb_S2304x9984_S2304x768_0_6912 inb_S1x9984_S1x768_0_6912 inb_S256x9984_S256x768_0_6912,
      y_stored_piece harg2 harg3 harg4 harg5 x0 x1 x2 x3 x4 _ (A_v31 c arg1 harg1 arg9 x0) 6144 inb_S256x2304_S256x2304_0_0 inb_S2304x9984_S2304x768_0_6144 inb_S1x9984_S1x768_0_6144 inb_S256x9984_S256x768_0_6144,
      y_stored_piece harg2 harg3 harg4 harg5 x0 x1 x2 x3 x4 _ (A_v31 c arg1 harg1 arg9 x0) 5376 inb_S256x2304_S256x2304_0_0 inb_S2304x9984_S2304x768_0_5376 inb_S1x9984_S1x768_0_5376 inb_S256x9984_S256x768_0_5376,
      y_stored_piece harg2 harg3 harg4 harg5 x0 x1 x2 x3 x4 _ (A_v31 c arg1 harg1 arg9 x0) 4608 inb_S256x2304_S256x2304_0_0 inb_S2304x9984_S2304x768_0_4608 inb_S1x9984_S1x768_0_4608 inb_S256x9984_S256x768_0_4608,
      y_stored_piece harg2 harg3 harg4 harg5 x0 x1 x2 x3 x4 _ (A_v31 c arg1 harg1 arg9 x0) 3840 inb_S256x2304_S256x2304_0_0 inb_S2304x9984_S2304x768_0_3840 inb_S1x9984_S1x768_0_3840 inb_S256x9984_S256x768_0_3840,
      y_stored_piece harg2 harg3 harg4 harg5 x0 x1 x2 x3 x4 _ (A_v31 c arg1 harg1 arg9 x0) 3072 inb_S256x2304_S256x2304_0_0 inb_S2304x9984_S2304x768_0_3072 inb_S1x9984_S1x768_0_3072 inb_S256x9984_S256x768_0_3072,
      y_stored_piece harg2 harg3 harg4 harg5 x0 x1 x2 x3 x4 _ (A_v31 c arg1 harg1 arg9 x0) 2304 inb_S256x2304_S256x2304_0_0 inb_S2304x9984_S2304x768_0_2304 inb_S1x9984_S1x768_0_2304 inb_S256x9984_S256x768_0_2304,
      y_stored_piece harg2 harg3 harg4 harg5 x0 x1 x2 x3 x4 _ (A_v31 c arg1 harg1 arg9 x0) 1536 inb_S256x2304_S256x2304_0_0 inb_S2304x9984_S2304x768_0_1536 inb_S1x9984_S1x768_0_1536 inb_S256x9984_S256x768_0_1536,
      y_stored_piece harg2 harg3 harg4 harg5 x0 x1 x2 x3 x4 _ (A_v31 c arg1 harg1 arg9 x0) 768 inb_S256x2304_S256x2304_0_0 inb_S2304x9984_S2304x768_0_768 inb_S1x9984_S1x768_0_768 inb_S256x9984_S256x768_0_768,
      y_stored_piece harg2 harg3 harg4 harg5 x0 x1 x2 x3 x4 _ (A_v31 c arg1 harg1 arg9 x0) 0 inb_S256x2304_S256x2304_0_0 inb_S2304x9984_S2304x768_0_0 inb_S1x9984_S1x768_0_0 inb_S256x9984_S256x768_0_0,
      trivial⟩
  funext j
  exact View.read_writes_apply_of_pieces (Val := Elt Ideal) (e := .f32) _ _ (YG x0 x1 x2 x3 x4) _ hP.mem j (scover0_A_0 c i arg1 harg1 arg2 harg2 arg3 harg3 arg4 harg4 arg5 harg5 arg6 harg6 arg7 harg7 arg8 harg8 arg9 harg9 arg10 harg10 arg11 harg11 hc0 hc1 hc2 x0 x1 x2 x3 x4 j)

/-- The lane maxima the point leaves. -/
theorem sout_A_2 (a : Fin 256) (l : Fin 128) : sout0_A_2 c i arg1 harg1 arg2 harg2 arg3 harg3 arg4 harg4 arg5 harg5 arg6 harg6 arg7 harg7 arg8 harg8 arg9 harg9 arg10 harg10 arg11 harg11 hc0 hc1 hc2 x0 x1 x2 x3 x4 (ix2 a l) = lanes (Yb x0 x1 x2 x3 x4 a) 12 l := by
  have e : (ix2 a l : S256x128.Idx) = (Rect.unit (s := S256x128) ![0, 0] S256x128.size inb_S256x128_S256x128_0_0).emb (ix2 a l) := by
    refine Eq.symm ((emb_ix2 0 0 _ a l (by omega) (by omega)).trans ?_)
    congr 1 <;> exact Fin.ext (Nat.zero_add _)
  unfold sout0_A_2 kernelRun0_A
  dsimp only
  refine (congrArg _ e).trans ((View.read_writes_cons_emb (Val := Elt Ideal) (e := .f32) _ _ _ _ _ _).trans ?_)
  exact step_piece harg2 harg3 harg4 harg5 x0 x1 x2 x3 x4 _ (A_v31 c arg1 harg1 arg9 x0) 9216 inb_S256x2304_S256x2304_0_0 inb_S2304x9984_S2304x768_0_9216 inb_S1x9984_S1x768_0_9216 inb_S256x9984_S256x768_0_9216
    11 rfl _ (A_v462 c arg1 harg1 arg2 harg2 arg3 harg3 arg4 harg4 arg5 harg5 arg9 arg10 x0 x1 x2 x3 x4) a l

end Cert.KernelIdeal.Own

end
-- ==== Proof.BlockB.lean ====
/- What a middle grid point leaves: the codes and scales of the block before, a block of the product and its lane maxima. -/
module

public import proofs.«01_k».proof.Proof.IdealFrame.Frame
public import proofs.«01_k».proof.Proof.Pieces

@[expose] public section

set_option maxRecDepth 16384

noncomputable section

namespace Cert.KernelIdeal.Own

open Cert.KernelIdeal.Gen Cert.Exponent Idealize.ShloMosaic Idealize.ShloMosaic.Pointwise

variable (c : Dev nD) (i : grid0.Coords)
  (arg1 : Memref sig .tc .vmem S1x1x256 .f32) (harg1 : arg1.IsWhole)
  (arg2 : Memref sig .tc .vmem S256x2304 .fp8e4m3) (harg2 : arg2.IsWhole)
  (arg3 : Memref sig .tc .vmem S2304x9984 .fp8e4m3) (harg3 : arg3.IsWhole)
  (arg4 : Memref sig .tc .vmem S1x9984 .f32) (harg4 : arg4.IsWhole)
  (arg5 : Memref sig .tc .vmem S256x9984 .bf16) (harg5 : arg5.IsWhole)
  (arg6 : Memref sig .tc .vmem S256x9984 .fp8e4m3) (harg6 : arg6.IsWhole)
  (arg7 : Memref sig .tc .vmem S1x1x256 .f32) (harg7 : arg7.IsWhole)
  (arg8 : Memref sig .tc .vmem S256x9984 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (hc0 : ¬cond0_0 i) (hc1 : cond0_1 i) (hc2 : ¬cond0_2 i)
  (x0 : Vec Ideal S1x1x256 .f32) (x1 : Vec Ideal S256x2304 .fp8e4m3) (x2 : Vec Ideal S2304x9984 .fp8e4m3)
  (x3 : Vec Ideal S1x9984 .f32) (x4 : Vec Ideal S256x9984 .bf16)
  (xs0 : Vec Ideal S256x9984 .f32) (xs2 : Vec Ideal S256x128 .f32)

/-- The column of row scales of the point's block. -/
theorem B_v255 (a : Fin 256) (l : Fin 128) :
    kernelRun0_B.sl.v255 (F := Ideal) c arg1 harg1 arg9 x0 (ix2 a l) = x0 (ix3 0 0 a) :=
  halves (XG x0) inb_S256x128_S128x128_0_0 inb_S256x128_S128x128_128_0 _ _
    (xc_lo harg1 x0 inb_S1x1x256_S1x1x128_0_0_0 _) (xc_hi harg1 x0 inb_S1x1x256_S1x1x128_0_0_128 _) inb_S256x128_S256x128_0_0 a l

/-- The lane maxima after chunk 0. -/
theorem B_v322 (a : Fin 256) (l : Fin 128) :
    kernelRun0_B.sl.v322 (F := Ideal) c arg1 harg1 arg2 harg2 arg3 harg3 arg4 harg4 arg5 harg5 arg9 arg10 x0 x1 x2 x3 x4 (ix2 a l) = lanes (Yb x0 x1 x2 x3 x4 a) 0 l := by
  rw [kernelRun0_B.sl.v322, kernelRun0_B.sl.HS2_1, View.readCov_cons_toLoadRect]
  exact first_piece harg2 harg3 harg4 harg5 x0 x1 x2 x3 x4 _ (B_v255 c arg1 harg1 arg9 x0) 0 inb_S256x2304_S256x2304_0_0 inb_S2304x9984_S2304x768_0_0 inb_S1x9984_S1x768_0_0 inb_S256x9984_S256x768_0_0 rfl a l

/-- The lane maxima after chunk 1. -/
theorem B_v366 (a : Fin 256) (l : Fin 128) :
    kernelRun0_B.sl.v366 (F := Ideal) c arg1 harg1 arg2 harg2 arg3 harg3 arg4 harg4 arg5 harg5 arg9 arg10 x0 x1 x2 x3 x4 (ix2 a l) = lanes (Yb x0 x1 x2 x3 x4 a) 1 l := by
  rw [kernelRun0_B.sl.v366, kernelRun0_B.sl.HS2_2, View.readCov_cons_toLoadRect]
  exact step_piece harg2 harg3 harg4 harg5 x0 x1 x2 x3 x4 _ (B_v255 c arg1 harg1 arg9 x0) 768 inb_S256x2304_S256x2304_0_0 inb_S2304x9984_S2304x768_0_768 inb_S1x9984_S1x768_0_768 inb_S256x9984_S256x768_0_768
    0 rfl _ (B_v322 c arg1 harg1 arg2 harg2 arg3 harg3 arg4 harg4 arg5 harg5 arg9 arg10 x0 x1 x2 x3 x4) a l

/-- The lane maxima after chunk 2. -/
theorem B_v410 (a : Fin 256) (l : Fin 128) :
    kernelRun0_B.sl.v410 (F := Ideal) c arg1 harg1 arg2 harg2 arg3 harg3 arg4 harg4 arg5 harg5 arg9 arg10 x0 x1 x2 x3 x4 (ix2 a l) = lanes (Yb x0 x1 x2 x3 x4 a) 2 l := by
  rw [kernelRun0_B.sl.v410, kernelRun0_B.sl.HS2_3, View.readCov_cons_toLoadRect]
  exact step_piece harg2 harg3 harg4 harg5 x0 x1 x2 x3 x4 _ (B_v255 c arg1 harg1 arg9 x0) 1536 inb_S256x2304_S256x2304_0_0 inb_S2304x9984_S2304x768_0_1536 inb_S1x9984_S1x768_0_1536 inb_S256x9984_S256x768_0_1536
    1 rfl _ (B_v366 c arg1 harg1 arg2 harg2 arg3 harg3 arg4 harg4 arg5 harg5 arg9 arg10 x0 x1 x2 x3 x4) a l

/-- The lane maxima after chunk 3. -/
theorem B_v454 (a : Fin 256) (l : Fin 128) :
    kernelRun0_B.sl.v454 (F := Ideal) c arg1 harg1 arg2 harg2 arg3 harg3 arg4 harg4 arg5 harg5 arg9 arg10 x0 x1 x2 x3 x4 (ix2 a l) = lanes (Yb x0 x1 x2 x3 x4 a) 3 l := by
  rw [kernelRun0_B.sl.v454, kernelRun0_B.sl.HS2_4, View.readCov_cons_toLoadRect]
  exact step_piece harg2 harg3 harg4 harg5 x0 x1 x2 x3 x4 _ (B_v255 c arg1 harg1 arg9 x0) 2304 inb_S256x2304_S256x2304_0_0 inb_S2304x9984_S2304x768_0_2304 inb_S1x9984_S1x768_0_2304 inb_S256x9984_S256x768_0_2304
    2 rfl _ (B_v410 c arg1 harg1 arg2 harg2 arg3 harg3 arg4 harg4 arg5 harg5 arg9 arg10 x0 x1 x2 x3 x4) a l

/-- The lane maxima after chunk 4. -/
theorem B_v498 (a : Fin 256) (l : Fin 128) :
    kernelRun0_B.sl.v498 (F := Ideal) c arg1 harg1 arg2 harg2 arg3 harg3 arg4 harg4 arg5 harg5 arg9 arg10 x0 x1 x2 x3 x4 (ix2 a l) = lanes (Yb x0 x1 x2 x3 x4 a) 4 l := by
  rw [kernelRun0_B.sl.v498, kernelRun0_B.sl.HS2_5, View.readCov_cons_toLoadRect]
  exact step_piece harg2 harg3 harg4 harg5 x0 x1 x2 x3 x4 _ (B_v255 c arg1 harg1 arg9 x0) 3072 inb_S256x2304_S256x2304_0_0 inb_S2304x9984_S2304x768_0_3072 inb_S1x9984_S1x768_0_3072 inb_S256x9984_S256x768_0_3072
    3 rfl _ (B_v454 c arg1 harg1 arg2 harg2 arg3 harg3 arg4 harg4 arg5 harg5 arg9 arg10 x0 x1 x2 x3 x4) a l

/-- The lane maxima after chunk 5. -/
theorem B_v542 (a : Fin 256) (l : Fin 128) :
    kernelRun0_B.sl.v542 (F := Ideal) c arg1 harg1 arg2 harg2 arg3 harg3 arg4 harg4 arg5 harg5 arg9 arg10 x0 x1 x2 x3 x4 (ix2 a l) = lanes (Yb x0 x1 x2 x3 x4 a) 5 l := by
  rw [kernelRun0_B.sl.v542, kernelRun0_B.sl.HS2_6, View.readCov_cons_toLoadRect]
  exact step_piece harg2 harg3 harg4 harg5 x0 x1 x2 x3 x4 _ (B_v255 c arg1 harg1 arg9 x0) 3840 inb_S256x2304_S256x2304_0_0 inb_S2304x9984_S2304x768_0_3840 inb_S1x9984_S1x768_0_3840 inb_S256x9984_S256x768_0_3840
    4 rfl _ (B_v498 c arg1 harg1 arg2 harg2 arg3 harg3 arg4 harg4 arg5 harg5 arg9 arg10 x0 x1 x2 x3 x4) a l

/-- The lane maxima after chunk 6. -/
theorem B_v586 (a : Fin 256) (l : Fin 128) :
    kernelRun0_B.sl.v586 (F := Ideal) c arg1 harg1 arg2 harg2 arg3 harg3 arg4 harg4 arg5 harg5 arg9 arg10 x0 x1 x2 x3 x4 (ix2 a l) = lanes (Yb x0 x1 x2 x3 x4 a) 6 l := by
  rw [kernelRun0_B.sl.v586, kernelRun0_B.sl.HS2_7, View.readCov_cons_toLoadRect]
  exact step_piece harg2 harg3 harg4 harg5 x0 x1 x2 x3 x4 _ (B_v255 c arg1 harg1 arg9 x0) 4608 inb_S256x2304_S256x2304_0_0 inb_S2304x9984_S2304x768_0_4608 inb_S1x9984_S1x768_0_4608 inb_S256x9984_S256x768_0_4608
    5 rfl _ (B_v542 c arg1 harg1 arg2 harg2 arg3 harg3 arg4 harg4 arg5 harg5 arg9 arg10 x0 x1 x2 x3 x4) a l

/-- The lane maxima after chunk 7. -/
theorem B_v630 (a : Fin 256) (l : Fin 128) :
    kernelRun0_B.sl.v630 (F := Ideal) c arg1 harg1 arg2 harg2 arg3 harg3 arg4 harg4 arg5 harg5 arg9 arg10 x0 x1 x2 x3 x4 (ix2 a l) = lanes (Yb x0 x1 x2 x3 x4 a) 7 l := by
  rw [kernelRun0_B.sl.v630, kernelRun0_B.sl.HS2_8, View.readCov_cons_toLoadRect]
  exact step_piece harg2 harg3 harg4 harg5 x0 x1 x2 x3 x4 _ (B_v255 c arg1 harg1 arg9 x0) 5376 inb_S256x2304_S256x2304_0_0 inb_S2304x9984_S2304x768_0_5376 inb_S1x9984_S1x768_0_5376 inb_S256x9984_S256x768_0_5376
    6 rfl _ (B_v586 c arg1 harg1 arg2 harg2 arg3 harg3 arg4 harg4 arg5 harg5 arg9 arg10 x0 x1 x2 x3 x4) a l

/-- The lane maxima after chunk 8. -/
theorem B_v674 (a : Fin 256) (l : Fin 128) :
    kernelRun0_B.sl.v674 (F := Ideal) c arg1 harg1 arg2 harg2 arg3 harg3 arg4 harg4 arg5 harg5 arg9 arg10 x0 x1 x2 x3 x4 (ix2 a l) = lanes (Yb x0 x1 x2 x3 x4 a) 8 l := by
  rw [kernelRun0_B.sl.v674, kernelRun0_B.sl.HS2_9, View.readCov_cons_toLoadRect]
  exact step_piece harg2 harg3 harg4 harg5 x0 x1 x2 x3 x4 _ (B_v255 c arg1 harg1 arg9 x0) 6144 inb_S256x2304_S256x2304_0_0 inb_S2304x9984_S2304x768_0_6144 inb_S1x9984_S1x768_0_6144 inb_S256x9984_S256x768_0_6144
    7 rfl _ (B_v630 c arg1 harg1 arg2 harg2 arg3 harg3 arg4 harg4 arg5 harg5 arg9 arg10 x0 x1 x2 x3 x4) a l

/-- The lane maxima after chunk 9. -/
theorem B_v718 (a : Fin 256) (l : Fin 128) :
    kernelRun0_B.sl.v718 (F := Ideal) c arg1 harg1 arg2 harg2 arg3 harg3 arg4 harg4 arg5 harg5 arg9 arg10 x0 x1 x2 x3 x4 (ix2 a l) = lanes (Yb x0 x1 x2 x3 x4 a) 9 l := by
  rw [kernelRun0_B.sl.v718, kernelRun0_B.sl.HS2_10, View.readCov_cons_toLoadRect]
  exact step_piece harg2 harg3 harg4 harg5 x0 x1 x2 x3 x4 _ (B_v255 c arg1 harg1 arg9 x0) 6912 inb_S256x2304_S256x2304_0_0 inb_S2304x9984_S2304x768_0_6912 inb_S1x9984_S1x768_0_6912 inb_S256x9984_S256x768_0_6912
    8 rfl _ (B_v674 c arg1 harg1 arg2 harg2 arg3 harg3 arg4 harg4 arg5 harg5 arg9 arg10 x0 x1 x2 x3 x4) a l

/-- The lane maxima after chunk 10. -/
theorem B_v762 (a : Fin 256) (l : Fin 128) :
    kernelRun0_B.sl.v762 (F := Ideal) c arg1 harg1 arg2 harg2 arg3 harg3 arg4 harg4 arg5 harg5 arg9 arg10 x0 x1 x2 x3 x4 (ix2 a l) = lanes (Yb x0 x1 x2 x3 x4 a) 10 l := by
  rw [kernelRun0_B.sl.v762, kernelRun0_B.sl.HS2_11, View.readCov_cons_toLoadRect]
  exact step_piece harg2 harg3 harg4 harg5 x0 x1 x2 x3 x4 _ (B_v255 c arg1 harg1 arg9 x0) 7680 inb_S256x2304_S256x2304_0_0 inb_S2304x9984_S2304x768_0_7680 inb_S1x9984_S1x768_0_7680 inb_S256x9984_S256x768_0_7680
    9 rfl _ (B_v718 c arg1 harg1 arg2 harg2 arg3 harg3 arg4 harg4 arg5 harg5 arg9 arg10 x0 x1 x2 x3 x4) a l

/-- The lane maxima after chunk 11. -/
theorem B_v806 (a : Fin 256) (l : Fin 128) :
    kernelRun0_B.sl.v806 (F := Ideal) c arg1 harg1 arg2 harg2 arg3 harg3 arg4 harg4 arg5 harg5 arg9 arg10 x0 x1 x2 x3 x4 (ix2 a l) = lanes (Yb x0 x1 x2 x3 x4 a) 11 l := by
  rw [kernelRun0_B.sl.v806, kernelRun0_B.sl.HS2_12, View.readCov_cons_toLoadRect]
  exact step_piece harg2 harg3 harg4 harg5 x0 x1 x2 x3 x4 _ (B_v255 c arg1 harg1 arg9 x0) 8448 inb_S256x2304_S256x2304_0_0 inb_S2304x9984_S2304x768_0_8448 inb_S1x9984_S1x768_0_8448 inb_S256x9984_S256x768_0_8448
    10 rfl _ (B_v762 c arg1 harg1 arg2 harg2 arg3 harg3 arg4 harg4 arg5 harg5 arg9 arg10 x0 x1 x2 x3 x4) a l

/-- The block of the product the point leaves. -/
theorem sout_B_0 : sout0_B_0 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 = YG x0 x1 x2 x3 x4 := by
  have hP : View.PiecesOf (Val := Elt Ideal) (e := .f32) (YG x0 x1 x2 x3 x4) (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.2.1 := by
    unfold kernelRun0_B
    dsimp only
    exact ⟨y_stored_piece harg2 harg3 harg4 harg5 x0 x1 x2 x3 x4 _ (B_v255 c arg1 harg1 arg9 x0) 9216 inb_S256x2304_S256x2304_0_0 inb_S2304x9984_S2304x768_0_9216 inb_S1x9984_S1x768_0_9216 inb_S256x9984_S256x768_0_9216,
      y_stored_piece harg2 harg3 harg4 harg5 x0 x1 x2 x3 x4 _ (B_v255 c arg1 harg1 arg9 x0) 8448 inb_S256x2304_S256x2304_0_0 inb_S2304x9984_S2304x768_0_8448 inb_S1x9984_S1x768_0_8448 inb_S256x9984_S256x768_0_8448,
      y_stored_piece harg2 harg3 harg4 harg5 x0 x1 x2 x3 x4 _ (B_v255 c arg1 harg1 arg9 x0) 7680 inb_S256x2304_S256x2304_0_0 inb_S2304x9984_S2304x768_0_7680 inb_S1x9984_S1x768_0_7680 inb_S256x9984_S256x768_0_7680,
      y_stored_piece harg2 harg3 harg4 harg5 x0 x1 x2 x3 x4 _ (B_v255 c arg1 harg1 arg9 x0) 6912 inb_S256x2304_S256x2304_0_0 inb_S2304x9984_S2304x768_0_6912 inb_S1x9984_S1x768_0_6912 inb_S256x9984_S256x768_0_6912,
      y_stored_piece harg2 harg3 harg4 harg5 x0 x1 x2 x3 x4 _ (B_v255 c arg1 harg1 arg9 x0) 6144 inb_S256x2304_S256x2304_0_0 inb_S2304x9984_S2304x768_0_6144 inb_S1x9984_S1x768_0_6144 inb_S256x9984_S256x768_0_6144,
      y_stored_piece harg2 harg3 harg4 harg5 x0 x1 x2 x3 x4 _ (B_v255 c arg1 harg1 arg9 x0) 5376 inb_S256x2304_S256x2304_0_0 inb_S2304x9984_S2304x768_0_5376 inb_S1x9984_S1x768_0_5376 inb_S256x9984_S256x768_0_5376,
      y_stored_piece harg2 harg3 harg4 harg5 x0 x1 x2 x3 x4 _ (B_v255 c arg1 harg1 arg9 x0) 4608 inb_S256x2304_S256x2304_0_0 inb_S2304x9984_S2304x768_0_4608 inb_S1x9984_S1x768_0_4608 inb_S256x9984_S256x768_0_4608,
      y_stored_piece harg2 harg3 harg4 harg5 x0 x1 x2 x3 x4 _ (B_v255 c arg1 harg1 arg9 x0) 3840 inb_S256x2304_S256x2304_0_0 inb_S2304x9984_S2304x768_0_3840 inb_S1x9984_S1x768_0_3840 inb_S256x9984_S256x768_0_3840,
      y_stored_piece harg2 harg3 harg4 harg5 x0 x1 x2 x3 x4 _ (B_v255 c arg1 harg1 arg9 x0) 3072 inb_S256x2304_S256x2304_0_0 inb_S2304x9984_S2304x768_0_3072 inb_S1x9984_S1x768_0_3072 inb_S256x9984_S256x768_0_3072,
      y_stored_piece harg2 harg3 harg4 harg5 x0 x1 x2 x3 x4 _ (B_v255 c arg1 harg1 arg9 x0) 2304 inb_S256x2304_S256x2304_0_0 inb_S2304x9984_S2304x768_0_2304 inb_S1x9984_S1x768_0_2304 inb_S256x9984_S256x768_0_2304,
      y_stored_piece harg2 harg3 harg4 harg5 x0 x1 x2 x3 x4 _ (B_v255 c arg1 harg1 arg9 x0) 1536 inb_S256x2304_S256x2304_0_0 inb_S2304x9984_S2304x768_0_1536 inb_S1x9984_S1x768_0_1536 inb_S256x9984_S256x768_0_1536,
      y_stored_piece harg2 harg3 harg4 harg5 x0 x1 x2 x3 x4 _ (B_v255 c arg1 harg1 arg9 x0) 768 inb_S256x2304_S256x2304_0_0 inb_S2304x9984_S2304x768_0_768 inb_S1x9984_S1x768_0_768 inb_S256x9984_S256x768_0_768,
      y_stored_piece harg2 harg3 harg4 harg5 x0 x1 x2 x3 x4 _ (B_v255 c arg1 harg1 arg9 x0) 0 inb_S256x2304_S256x2304_0_0 inb_S2304x9984_S2304x768_0_0 inb_S1x9984_S1x768_0_0 inb_S256x9984_S256x768_0_0,
      trivial⟩
  funext j
  exact View.read_writes_apply_of_pieces (Val := Elt Ideal) (e := .f32) _ _ (YG x0 x1 x2 x3 x4) _ hP.mem j (scover0_B_0 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 j)

/-- The lane maxima the point leaves. -/
theorem sout_B_2 (a : Fin 256) (l : Fin 128) : sout0_B_2 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 (ix2 a l) = lanes (Yb x0 x1 x2 x3 x4 a) 12 l := by
  have e : (ix2 a l : S256x128.Idx) = (Rect.unit (s := S256x128) ![0, 0] S256x128.size inb_S256x128_S256x128_0_0).emb (ix2 a l) := by
    refine Eq.symm ((emb_ix2 0 0 _ a l (by omega) (by omega)).trans ?_)
    congr 1 <;> exact Fin.ext (Nat.zero_add _)
  unfold sout0_B_2 kernelRun0_B
  dsimp only
  refine (congrArg _ e).trans ((View.read_writes_cons_emb (Val := Elt Ideal) (e := .f32) _ _ _ _ _ _).trans ?_)
  exact step_piece harg2 harg3 harg4 harg5 x0 x1 x2 x3 x4 _ (B_v255 c arg1 harg1 arg9 x0) 9216 inb_S256x2304_S256x2304_0_0 inb_S2304x9984_S2304x768_0_9216 inb_S1x9984_S1x768_0_9216 inb_S256x9984_S256x768_0_9216
    11 rfl _ (B_v806 c arg1 harg1 arg2 harg2 arg3 harg3 arg4 harg4 arg5 harg5 arg9 arg10 x0 x1 x2 x3 x4) a l

/-- The inverse scales of the block the point before left. -/
theorem B_v241 (a : Fin 256) (l : Fin 128) :
    kernelRun0_B.sl.v241 (F := Ideal) c arg10 harg10 arg11 xs2 (ix2 a l) = invWord (fieldWord (Qb xs2 a)) :=
  halves (IG xs2) inb_S256x128_S128x128_0_0 inb_S256x128_S128x128_128_0 _ _
    (inv_lo xs2 harg10 _) (inv_hi xs2 harg10 _) inb_S256x128_S256x128_0_0 a l

/-- The block of codes the point leaves. -/
theorem out_B_5 : out0_B_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 = CG xs0 xs2 := by
  have hP : View.PiecesOf (Val := Elt Ideal) (e := .fp8e4m3) (CG xs0 xs2) (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1 := by
    unfold kernelRun0_B
    dsimp only
    exact ⟨code_piece harg8 xs0 xs2 _ (B_v241 c arg10 harg10 arg11 xs2) 9216 inb_S256x9984_S256x768_0_9216,
      code_piece harg8 xs0 xs2 _ (B_v241 c arg10 harg10 arg11 xs2) 8448 inb_S256x9984_S256x768_0_8448,
      code_piece harg8 xs0 xs2 _ (B_v241 c arg10 harg10 arg11 xs2) 7680 inb_S256x9984_S256x768_0_7680,
      code_piece harg8 xs0 xs2 _ (B_v241 c arg10 harg10 arg11 xs2) 6912 inb_S256x9984_S256x768_0_6912,
      code_piece harg8 xs0 xs2 _ (B_v241 c arg10 harg10 arg11 xs2) 6144 inb_S256x9984_S256x768_0_6144,
      code_piece harg8 xs0 xs2 _ (B_v241 c arg10 harg10 arg11 xs2) 5376 inb_S256x9984_S256x768_0_5376,
      code_piece harg8 xs0 xs2 _ (B_v241 c arg10 harg10 arg11 xs2) 4608 inb_S256x9984_S256x768_0_4608,
      code_piece harg8 xs0 xs2 _ (B_v241 c arg10 harg10 arg11 xs2) 3840 inb_S256x9984_S256x768_0_3840,
      code_piece harg8 xs0 xs2 _ (B_v241 c arg10 harg10 arg11 xs2) 3072 inb_S256x9984_S256x768_0_3072,
      code_piece harg8 xs0 xs2 _ (B_v241 c arg10 harg10 arg11 xs2) 2304 inb_S256x9984_S256x768_0_2304,
      code_piece harg8 xs0 xs2 _ (B_v241 c arg10 harg10 arg11 xs2) 1536 inb_S256x9984_S256x768_0_1536,
      code_piece harg8 xs0 xs2 _ (B_v241 c arg10 harg10 arg11 xs2) 768 inb_S256x9984_S256x768_0_768,
      code_piece harg8 xs0 xs2 _ (B_v241 c arg10 harg10 arg11 xs2) 0 inb_S256x9984_S256x768_0_0,
      trivial⟩
  funext j
  exact View.read_writes_apply_of_pieces (Val := Elt Ideal) (e := .fp8e4m3) _ _ (CG xs0 xs2) _ hP.mem j (cover0_B_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 j)

/-- The block of scales the point leaves. -/
theorem out_B_6 : out0_B_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 = SG xs2 := by
  have hP : View.PiecesOf (Val := Elt Ideal) (e := .f32) (SG xs2) (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1 := by
    unfold kernelRun0_B
    dsimp only
    exact ⟨scale_hi xs2 harg10 inb_S256x128_S128x128_128_0 inb_S1x1x256_S1x1x128_0_0_128,
      scale_lo xs2 harg10 inb_S256x128_S128x128_0_0 inb_S1x1x256_S1x1x128_0_0_0, trivial⟩
  funext j
  exact View.read_writes_apply_of_pieces (Val := Elt Ideal) (e := .f32) _ _ (SG xs2) _ hP.mem j (cover0_B_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 j)

end Cert.KernelIdeal.Own

end
-- ==== Proof.BlockC.lean ====
/- What the last grid point leaves: the codes and scales of the last block. -/
module

public import proofs.«01_k».proof.Proof.IdealFrame.Frame
public import proofs.«01_k».proof.Proof.Pieces

@[expose] public section

set_option maxRecDepth 16384

noncomputable section

namespace Cert.KernelIdeal.Own

open Cert.KernelIdeal.Gen Cert.Exponent Idealize.ShloMosaic Idealize.ShloMosaic.Pointwise

variable (c : Dev nD) (i : grid0.Coords)
  (arg1 : Memref sig .tc .vmem S1x1x256 .f32) (harg1 : arg1.IsWhole)
  (arg2 : Memref sig .tc .vmem S256x2304 .fp8e4m3) (harg2 : arg2.IsWhole)
  (arg3 : Memref sig .tc .vmem S2304x9984 .fp8e4m3) (harg3 : arg3.IsWhole)
  (arg4 : Memref sig .tc .vmem S1x9984 .f32) (harg4 : arg4.IsWhole)
  (arg5 : Memref sig .tc .vmem S256x9984 .bf16) (harg5 : arg5.IsWhole)
  (arg6 : Memref sig .tc .vmem S256x9984 .fp8e4m3) (harg6 : arg6.IsWhole)
  (arg7 : Memref sig .tc .vmem S1x1x256 .f32) (harg7 : arg7.IsWhole)
  (arg8 : Memref sig .tc .vmem S256x9984 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x128 .f32) (harg11 : arg11.IsWhole)
  (hc0 : ¬cond0_0 i) (hc1 : ¬cond0_1 i) (hc2 : cond0_2 i)
  (x0 : Vec Ideal S1x1x256 .f32) (x1 : Vec Ideal S256x2304 .fp8e4m3) (x2 : Vec Ideal S2304x9984 .fp8e4m3)
  (x3 : Vec Ideal S1x9984 .f32) (x4 : Vec Ideal S256x9984 .bf16)
  (xs0 : Vec Ideal S256x9984 .f32) (xs2 : Vec Ideal S256x128 .f32)

/-- The inverse scales of the block the point before left. -/
theorem C_v225 (a : Fin 256) (l : Fin 128) :
    kernelRun0_C.sl.v225 (F := Ideal) c arg10 harg10 arg11 xs2 (ix2 a l) = invWord (fieldWord (Qb xs2 a)) :=
  halves (IG xs2) inb_S256x128_S128x128_0_0 inb_S256x128_S128x128_128_0 _ _
    (inv_lo xs2 harg10 _) (inv_hi xs2 harg10 _) inb_S256x128_S256x128_0_0 a l

/-- The block of codes the point leaves. -/
theorem out_C_5 : out0_C_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 = CG xs0 xs2 := by
  have hP : View.PiecesOf (Val := Elt Ideal) (e := .fp8e4m3) (CG xs0 xs2) (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).1 := by
    unfold kernelRun0_C
    dsimp only
    exact ⟨code_piece harg8 xs0 xs2 _ (C_v225 c arg10 harg10 arg11 xs2) 9216 inb_S256x9984_S256x768_0_9216,
      code_piece harg8 xs0 xs2 _ (C_v225 c arg10 harg10 arg11 xs2) 8448 inb_S256x9984_S256x768_0_8448,
      code_piece harg8 xs0 xs2 _ (C_v225 c arg10 harg10 arg11 xs2) 7680 inb_S256x9984_S256x768_0_7680,
      code_piece harg8 xs0 xs2 _ (C_v225 c arg10 harg10 arg11 xs2) 6912 inb_S256x9984_S256x768_0_6912,
      code_piece harg8 xs0 xs2 _ (C_v225 c arg10 harg10 arg11 xs2) 6144 inb_S256x9984_S256x768_0_6144,
      code_piece harg8 xs0 xs2 _ (C_v225 c arg10 harg10 arg11 xs2) 5376 inb_S256x9984_S256x768_0_5376,
      code_piece harg8 xs0 xs2 _ (C_v225 c arg10 harg10 arg11 xs2) 4608 inb_S256x9984_S256x768_0_4608,
      code_piece harg8 xs0 xs2 _ (C_v225 c arg10 harg10 arg11 xs2) 3840 inb_S256x9984_S256x768_0_3840,
      code_piece harg8 xs0 xs2 _ (C_v225 c arg10 harg10 arg11 xs2) 3072 inb_S256x9984_S256x768_0_3072,
      code_piece harg8 xs0 xs2 _ (C_v225 c arg10 harg10 arg11 xs2) 2304 inb_S256x9984_S256x768_0_2304,
      code_piece harg8 xs0 xs2 _ (C_v225 c arg10 harg10 arg11 xs2) 1536 inb_S256x9984_S256x768_0_1536,
      code_piece harg8 xs0 xs2 _ (C_v225 c arg10 harg10 arg11 xs2) 768 inb_S256x9984_S256x768_0_768,
      code_piece harg8 xs0 xs2 _ (C_v225 c arg10 harg10 arg11 xs2) 0 inb_S256x9984_S256x768_0_0,
      trivial⟩
  funext j
  exact View.read_writes_apply_of_pieces (Val := Elt Ideal) (e := .fp8e4m3) _ _ (CG xs0 xs2) _ hP.mem j (cover0_C_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 j)

/-- The block of scales the point leaves. -/
theorem out_C_6 : out0_C_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 = SG xs2 := by
  have hP : View.PiecesOf (Val := Elt Ideal) (e := .f32) (SG xs2) (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xs0 xs2).2.1 := by
    unfold kernelRun0_C
    dsimp only
    exact ⟨scale_hi xs2 harg10 inb_S256x128_S128x128_128_0 inb_S1x1x256_S1x1x128_0_0_128,
      scale_lo xs2 harg10 inb_S256x128_S128x128_0_0 inb_S1x1x256_S1x1x128_0_0_0, trivial⟩
  funext j
  exact View.read_writes_apply_of_pieces (Val := Elt Ideal) (e := .f32) _ _ (SG xs2) _ hP.mem j (cover0_C_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs2 j)

end Cert.KernelIdeal.Own

end
-- ==== Proof.Points.lean ====
/-
  What each grid point of the kernel leaves behind, in numbers: the points 0 … 63 leave the row block's unquantised result and
  its lane maxima in the two carried scratches; the points 1 … 64 leave the quantised codes and the scales of the row block
  before in the two output blocks.
-/
module

public import proofs.«01_k».proof.Proof.BlockA
public import proofs.«01_k».proof.Proof.BlockB
public import proofs.«01_k».proof.Proof.BlockC

@[expose] public section

noncomputable section

namespace Cert.KernelIdeal.Own

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- There are 65 steps. -/
theorem lt65 (t : Fin cfg0.N) : t.val < 65 := lt_of_lt_of_eq t.isLt (show cfg0.N = 65 from N_0)

/-- After each of the points 0 … 63 the first carried scratch holds the unquantised result of the point's row block. -/
theorem scratch0 (c : Dev nD) (t : Fin cfg0.N) (h : t.val ≤ 63) :
    (outsAt0 m c t.val t.isLt).2.2.1
      = YG (iblk m c 0 t) (iblk m c 1 t) (iblk m c 2 t) (iblk m c 3 t) (iblk m c 4 t) := by
  by_cases h0 : t.val % 65 = 0
  · rw [outsAt0_A m c t h0 (by omega) (by omega)]
    dsimp only
    rw [sout_A_0]
  · rw [outsAt0_B m c t h0 (by omega) (by omega)]
    dsimp only
    rw [sout_B_0]

/-- After each of the points 0 … 63 the second carried scratch holds, lane by lane, the largest absolute value of the
    unquantised results of the point's row block. -/
theorem scratch2 (c : Dev nD) (t : Fin cfg0.N) (h : t.val ≤ 63) (a : Fin 256) (l : Fin 128) :
    (outsAt0 m c t.val t.isLt).2.2.2 (ix2 a l)
      = lanes (Yb (iblk m c 0 t) (iblk m c 1 t) (iblk m c 2 t) (iblk m c 3 t) (iblk m c 4 t) a) 12 l := by
  by_cases h0 : t.val % 65 = 0
  · rw [outsAt0_A m c t h0 (by omega) (by omega)]
    dsimp only
    rw [sout_A_2]
  · rw [outsAt0_B m c t h0 (by omega) (by omega)]
    dsimp only
    rw [sout_B_2]

/-- After each of the points 1 … 64 the block of codes holds what the two scratches left by the point before quantise to. -/
theorem codes_at (c : Dev nD) (t : Fin cfg0.N) (h : t.val ≠ 0) (hp : t.val - 1 < cfg0.N) :
    (outsAt0 m c t.val t.isLt).1
      = CG (outsAt0 m c (t.val - 1) hp).2.2.1 (outsAt0 m c (t.val - 1) hp).2.2.2 := by
  have := lt65 t
  by_cases h2 : t.val % 65 = 64
  · rw [outsAt0_C m c t (by omega) (by omega) h2]
    dsimp only
    rw [out_C_5]
  · rw [outsAt0_B m c t (by omega) (by omega) h2]
    dsimp only
    rw [out_B_5]

/-- After each of the points 1 … 64 the block of scales holds the scales of the lane maxima left by the point before. -/
theorem scale_at (c : Dev nD) (t : Fin cfg0.N) (h : t.val ≠ 0) (hp : t.val - 1 < cfg0.N) :
    (outsAt0 m c t.val t.isLt).2.1 = SG (outsAt0 m c (t.val - 1) hp).2.2.2 := by
  have := lt65 t
  by_cases h2 : t.val % 65 = 64
  · rw [outsAt0_C m c t (by omega) (by omega) h2]
    dsimp only
    rw [out_C_6]
  · rw [outsAt0_B m c t (by omega) (by omega) h2]
    dsimp only
    rw [out_B_6]

end Cert.KernelIdeal.Own

end
-- ==== Proof.Blocks.lean ====
/- The blocks the kernel's windows read at a grid point, entry by entry, out of the five arguments. -/
module

public import proofs.«01_k».proof.Proof.Args
public import proofs.«01_k».proof.Proof.Points

@[expose] public section

noncomputable section

namespace Cert.KernelIdeal.Own

open Cert.KernelIdeal Cert.KernelIdeal.Gen Idealize.ShloMosaic Idealize.ShloMosaic.TcCoe Idealize.SL.Sem
open Idealize.ShloMosaic.Pointwise

/-! ## Where each window's block lies -/

theorem index0 : ∀ t : Fin grid0.N, win0_0.index t 0 = min t.val 63 / 8 ∧ win0_0.index t 1 = 0 ∧ win0_0.index t 2 = min t.val 63 % 8 := by
  decide +kernel
/-- Step `t` reads the activation codes of block `min t 63`. -/
theorem index1 : ∀ t : Fin grid0.N, win0_1.index t 0 = min t.val 63 ∧ win0_1.index t 1 = 0 := by decide +kernel
/-- Every step reads the whole weight codes. -/
theorem index2 : ∀ t : Fin grid0.N, win0_2.index t 0 = 0 ∧ win0_2.index t 1 = 0 := by decide +kernel
/-- Every step reads the whole weight scales. -/
theorem index3 : ∀ t : Fin grid0.N, win0_3.index t 0 = 0 ∧ win0_3.index t 1 = 0 := by decide +kernel
/-- Step `t` reads the residual of block `min t 63`. -/
theorem index4 : ∀ t : Fin grid0.N, win0_4.index t 0 = min t.val 63 ∧ win0_4.index t 1 = 0 := by decide +kernel
/-- Step `t` writes the codes of block `t - 1`. -/
theorem index5 : ∀ t : Fin grid0.N, win0_5.index t 0 = t.val - 1 ∧ win0_5.index t 1 = 0 := by decide +kernel
/-- Step `t` writes the scales of block `t - 1`: batch `(t - 1) / 8`, part `(t - 1) % 8`. -/
theorem index6 : ∀ t : Fin grid0.N, win0_6.index t 0 = (t.val - 1) / 8 ∧ win0_6.index t 1 = 0 ∧ win0_6.index t 2 = (t.val - 1) % 8 := by
  decide +kernel
/-- The codes are written back after every step but the first. -/
theorem flush5 : ∀ t : Fin grid0.N, win0_5.flush t = true ↔ t.val ≠ 0 := by decide +kernel
/-- The scales are written back after every step but the first. -/
theorem flush6 : ∀ t : Fin grid0.N, win0_6.flush t = true ↔ t.val ≠ 0 := by decide +kernel

variable (m : (ℓ : Loc nD τ sig) → Buf (Elt Ideal) ℓ)

/-! ## The entries of the blocks -/

/-- Row `a` of the row scales' block at point `t` is row `256 t + a` of all rows. -/
theorem iblk0 (c : Dev nD) (t : Fin cfg0.N) (h : t.val ≤ 63) (a : Fin 256) :
    iblk m c 0 t (ix3 0 0 a) = V m c main_v0 (ix3 ⟨t.val / 8, by omega⟩ 0 ⟨256 * (t.val % 8) + a.val, by omega⟩) := by
  show V m c main_v0 ((win0_0.rect t).emb (ix3 0 0 a)) = _
  refine congrArg (V m c main_v0) ?_
  obtain ⟨h0, h1, h2⟩ := index0 t
  funext i
  apply Fin.ext
  rw [Pipeline.Window.rect_emb_val win0_0 t]
  fin_cases i
  · show win0_0.index t 0 * 1 + 0 = t.val / 8
    omega
  · show win0_0.index t 1 * 1 + 0 = 0
    omega
  · show win0_0.index t 2 * 256 + a.val = 256 * (t.val % 8) + a.val
    omega

/-- Row `a` of the left operand's block at point `t` is row `256 t + a` of all rows. -/
theorem iblk1 (c : Dev nD) (t : Fin cfg0.N) (h : t.val ≤ 63) (a : Fin 256) (k : Fin 2304) :
    iblk m c 1 t (ix2 a k) = V m c main_v1 (ix2 ⟨256 * t.val + a.val, by omega⟩ k) := by
  show V m c main_v1 ((win0_1.rect t).emb (ix2 a k)) = _
  refine congrArg (V m c main_v1) ?_
  obtain ⟨h0, h1⟩ := index1 t
  funext i
  apply Fin.ext
  rw [Pipeline.Window.rect_emb_val win0_1 t]
  fin_cases i
  · show win0_1.index t 0 * 256 + a.val = 256 * t.val + a.val
    omega
  · show win0_1.index t 1 * 2304 + k.val = k.val
    omega

/-- The right operand's block is the whole right operand. -/
theorem iblk2 (c : Dev nD) (t : Fin cfg0.N) (k : Fin 2304) (n : Fin 9984) :
    iblk m c 2 t (ix2 k n) = V m c main_arg2 (ix2 k n) := by
  show V m c main_arg2 ((win0_2.rect t).emb (ix2 k n)) = _
  refine congrArg (V m c main_arg2) ?_
  obtain ⟨h0, h1⟩ := index2 t
  funext i
  apply Fin.ext
  rw [Pipeline.Window.rect_emb_val win0_2 t]
  fin_cases i
  · show win0_2.index t 0 * 2304 + k.val = k.val
    omega
  · show win0_2.index t 1 * 9984 + n.val = n.val
    omega

/-- The column scales' block is the whole of the column scales. -/
theorem iblk3 (c : Dev nD) (t : Fin cfg0.N) (n : Fin 9984) :
    iblk m c 3 t (ix2 0 n) = V m c main_arg3 (ix2 0 n) := by
  show V m c main_arg3 ((win0_3.rect t).emb (ix2 0 n)) = _
  refine congrArg (V m c main_arg3) ?_
  obtain ⟨h0, h1⟩ := index3 t
  funext i
  apply Fin.ext
  rw [Pipeline.Window.rect_emb_val win0_3 t]
  fin_cases i
  · show win0_3.index t 0 * 1 + 0 = 0
    omega
  · show win0_3.index t 1 * 9984 + n.val = n.val
    omega

/-- Row `a` of the residual's block at point `t` is row `256 t + a` of all rows. -/
theorem iblk4 (c : Dev nD) (t : Fin cfg0.N) (h : t.val ≤ 63) (a : Fin 256) (n : Fin 9984) :
    iblk m c 4 t (ix2 a n) = V m c main_v2 (ix2 ⟨256 * t.val + a.val, by omega⟩ n) := by
  show V m c main_v2 ((win0_4.rect t).emb (ix2 a n)) = _
  refine congrArg (V m c main_v2) ?_
  obtain ⟨h0, h1⟩ := index4 t
  funext i
  apply Fin.ext
  rw [Pipeline.Window.rect_emb_val win0_4 t]
  fin_cases i
  · show win0_4.index t 0 * 256 + a.val = 256 * t.val + a.val
    omega
  · show win0_4.index t 1 * 9984 + n.val = n.val
    omega

/-- Row `(b, s)` of the unquantised result, out of the arguments device `c` holds. -/
def Yrow (c : Dev nD) (b : Fin 8) (s : Fin 2048) : ℕ → EReal :=
  Spec.Y (m ((c : Thread nD τ).loc main_arg0)) (m ((c : Thread nD τ).loc main_arg1)) (m ((c : Thread nD τ).loc main_arg2))
    (m ((c : Thread nD τ).loc main_arg3)) (m ((c : Thread nD τ).loc main_arg4)) b s

/-- Row `a` of the unquantised result of the row block of point `t` is row `256 t + a` of all rows. -/
theorem Yb_eq (c : Dev nD) (t : Fin cfg0.N) (h : t.val ≤ 63) (a : Fin 256) :
    Yb (iblk m c 0 t) (iblk m c 1 t) (iblk m c 2 t) (iblk m c 3 t) (iblk m c 4 t) a
      = Yrow m c ⟨(256 * t.val + a.val) / 2048, by omega⟩ ⟨(256 * t.val + a.val) % 2048, by omega⟩ := by
  funext n
  unfold Yb Yrow Spec.Y
  by_cases hn : n < 9984
  · rw [dif_pos hn, dif_pos hn, iblk0 m c t h, iblk3, iblk4 m c t h, V_main_arg3, V_main_v2, V_main_v0, cast_scales, cast_res]
    have e1 : (⟨t.val / 8, by omega⟩ : Fin 8) = ⟨(256 * t.val + a.val) / 2048, by omega⟩ := Fin.ext (by show t.val / 8 = (256 * t.val + a.val) / 2048; omega)
    have e2 : (⟨256 * (t.val % 8) + a.val, by omega⟩ : Fin 2048) = ⟨(256 * t.val + a.val) % 2048, by omega⟩ :=
      Fin.ext (by show 256 * (t.val % 8) + a.val = (256 * t.val + a.val) % 2048; omega)
    rw [e1, e2]
    have h1 : ∀ k : Fin 2304, iblk m c 1 t (ix2 a k)
        = m ((c : Thread nD τ).loc main_arg0) (ix3 ⟨(256 * t.val + a.val) / 2048, by omega⟩ ⟨(256 * t.val + a.val) % 2048, by omega⟩ k) :=
      fun k => by rw [iblk1 m c t h, V_main_v1, cast_x]
    have h2 : ∀ k : Fin 2304, iblk m c 2 t (ix2 k ⟨n, hn⟩) = m ((c : Thread nD τ).loc main_arg2) (ix2 k ⟨n, hn⟩) :=
      fun k => by rw [iblk2, V_main_arg2]
    simp only [h1, h2]
  · rw [dif_neg hn, dif_neg hn]

end Cert.KernelIdeal.Own

end
-- ==== Proof.Arrays.lean ====
/- The two arrays the kernel writes, entry by entry, out of the five arguments; and what the whole run returns. -/
module

public import proofs.«01_k».proof.Proof.Blocks
public import Idealize.ShloMosaic.Lib.Pipeline.ValueKit.Geometry

@[expose] public section

noncomputable section

namespace Cert.KernelIdeal.Own

open Cert.KernelIdeal Cert.KernelIdeal.Gen Cert.Exponent Idealize.ShloMosaic Idealize.ShloMosaic.TcCoe Idealize.SL.Sem
open Idealize.ShloMosaic.Pointwise

variable (m : (ℓ : Loc nD τ sig) → Buf (Elt Ideal) ℓ)

/-- The array of codes, all rows numbered through. -/
def G5 (c : Dev nD) (j : S16384x9984.Idx) : EReal :=
  Spec.code (Yrow m c ⟨(j 0).val / 2048, by have h : (j 0).val < 16384 := (j 0).isLt; omega⟩ ⟨(j 0).val % 2048, by omega⟩) (j 1).val

/-- The array of scales. -/
def G6 (c : Dev nD) (j : S8x1x2048.Idx) : EReal := Spec.scale (Yrow m c (j 0) (j 2))

/-- The row `q` that the lane maxima left at point `t` give is that of the row of the whole result. -/
theorem Qb_eq (c : Dev nD) (t : Fin cfg0.N) (h : t.val ≤ 63) (a : Fin 256) :
    Qb (outsAt0 m c t.val t.isLt).2.2.2 a
      = Spec.Q (Yrow m c ⟨(256 * t.val + a.val) / 2048, by omega⟩ ⟨(256 * t.val + a.val) % 2048, by omega⟩) := by
  unfold Qb
  simp only [scratch2 m c t h a, Yb_eq m c t h a]
  exact Spec.lanes_Q _

/-- What a point leaves in the block of codes is the whole array of codes at the block's place. -/
theorem codes_block (c : Dev nD) (t : Fin cfg0.N) (h : t.val ≠ 0) (a : Fin 256) (n : Fin 9984) :
    (outsAt0 m c t.val t.isLt).1 (ix2 a n) = G5 m c (ix2 ⟨256 * (t.val - 1) + a.val, by have := lt65 t; omega⟩ n) := by
  have h65 := lt65 t
  have hp : t.val - 1 < cfg0.N := lt_of_le_of_lt (Nat.sub_le _ _) t.isLt
  have h63 : (⟨t.val - 1, hp⟩ : Fin cfg0.N).val ≤ 63 := by show t.val - 1 ≤ 63; omega
  rw [codes_at m c t h hp]
  have hq := Qb_eq m c ⟨t.val - 1, hp⟩ h63 a
  have hs := scratch0 m c ⟨t.val - 1, hp⟩ h63
  have hy := congrFun (Yb_eq m c ⟨t.val - 1, hp⟩ h63 a) n.val
  show min _ (max _ ((outsAt0 m c (t.val - 1) hp).2.2.1 (ix2 a n) * invWord (fieldWord (Qb (outsAt0 m c (t.val - 1) hp).2.2.2 a)))) = _
  rw [hq, hs, inv_eq]
  unfold G5 Spec.code
  have hy' : YG (iblk m c 0 ⟨t.val - 1, hp⟩) (iblk m c 1 ⟨t.val - 1, hp⟩) (iblk m c 2 ⟨t.val - 1, hp⟩) (iblk m c 3 ⟨t.val - 1, hp⟩)
      (iblk m c 4 ⟨t.val - 1, hp⟩) (ix2 a n) = _ := hy
  rw [hy']
  rfl

/-- What a point leaves in the block of scales is the whole array of scales at the block's place. -/
theorem scales_block (c : Dev nD) (t : Fin cfg0.N) (h : t.val ≠ 0) (a : Fin 256) :
    (outsAt0 m c t.val t.isLt).2.1 (ix3 0 0 a)
      = G6 m c (ix3 ⟨(t.val - 1) / 8, by have := lt65 t; omega⟩ 0 ⟨256 * ((t.val - 1) % 8) + a.val, by omega⟩) := by
  have h65 := lt65 t
  have hp : t.val - 1 < cfg0.N := lt_of_le_of_lt (Nat.sub_le _ _) t.isLt
  have h63 : (⟨t.val - 1, hp⟩ : Fin cfg0.N).val ≤ 63 := by show t.val - 1 ≤ 63; omega
  rw [scale_at m c t h hp]
  have hq := Qb_eq m c ⟨t.val - 1, hp⟩ h63 a
  show scaleWord (fieldWord (Qb (outsAt0 m c (t.val - 1) hp).2.2.2 a)) = _
  rw [hq, scale_eq]
  unfold G6 Spec.scale
  have e1 : (⟨(256 * (t.val - 1) + a.val) / 2048, by omega⟩ : Fin 8) = ⟨(t.val - 1) / 8, by omega⟩ :=
    Fin.ext (by show (256 * (t.val - 1) + a.val) / 2048 = (t.val - 1) / 8; omega)
  have e2 : (⟨(256 * (t.val - 1) + a.val) % 2048, by omega⟩ : Fin 2048) = ⟨256 * ((t.val - 1) % 8) + a.val, by omega⟩ :=
    Fin.ext (by show (256 * (t.val - 1) + a.val) % 2048 = 256 * ((t.val - 1) % 8) + a.val; omega)
  show Ideal.exp2 (expo (Spec.Q (Yrow m c ⟨(256 * (t.val - 1) + a.val) / 2048, _⟩ ⟨(256 * (t.val - 1) + a.val) % 2048, _⟩))) = _
  rw [e1, e2]
  rfl

/-- The kernel's array of codes after the run. -/
theorem arr5 (c : Dev nD) : (dats m 0 c).arrAt 5 cfg0.N = G5 m c := by
  refine (dats m 0 c).arrAt_eq_of_covers 5 _ (by decide +kernel) fun t hf y => ?_
  have ht : t.val ≠ 0 := (flush5 t).mp hf
  have h65 := lt65 t
  obtain ⟨a, n, rfl⟩ : ∃ (a : Fin 256) (n : Fin 9984), y = ix2 a n := ⟨y 0, y 1, eq_ix2 y⟩
  show (dats m 0 c).after 5 t (ix2 a n) = G5 m c ((win0_5.rect t).emb (ix2 a n))
  rw [after0_5, codes_block m c t ht]
  refine congrArg (G5 m c) ?_
  obtain ⟨h0, h1⟩ := index5 t
  funext i
  apply Fin.ext
  rw [Pipeline.Window.rect_emb_val win0_5 t]
  fin_cases i
  · show 256 * (t.val - 1) + a.val = win0_5.index t 0 * 256 + a.val
    omega
  · show n.val = win0_5.index t 1 * 9984 + n.val
    omega

/-- The kernel's array of scales after the run. -/
theorem arr6 (c : Dev nD) : (dats m 0 c).arrAt 6 cfg0.N = G6 m c := by
  refine (dats m 0 c).arrAt_eq_of_covers 6 _ (by decide +kernel) fun t hf y => ?_
  have ht : t.val ≠ 0 := (flush6 t).mp hf
  have h65 := lt65 t
  obtain ⟨a0, a1, a, rfl⟩ : ∃ (a0 : Fin 1) (a1 : Fin 1) (a : Fin 256), y = ix3 a0 a1 a := ⟨y 0, y 1, y 2, eq_ix3 y⟩
  obtain rfl : a0 = 0 := Subsingleton.elim _ _
  obtain rfl : a1 = 0 := Subsingleton.elim _ _
  show (dats m 0 c).after 6 t (ix3 0 0 a) = G6 m c ((win0_6.rect t).emb (ix3 0 0 a))
  rw [after0_6, scales_block m c t ht]
  refine congrArg (G6 m c) ?_
  obtain ⟨h0, h1, h2⟩ := index6 t
  funext i
  apply Fin.ext
  rw [Pipeline.Window.rect_emb_val win0_6 t]
  fin_cases i
  · show (t.val - 1) / 8 = win0_6.index t 0 * 1 + 0
    omega
  · show 0 = win0_6.index t 1 * 1 + 0
    omega
  · show 256 * ((t.val - 1) % 8) + a.val = win0_6.index t 2 * 256 + a.val
    omega

/-- The codes the run returns. -/
theorem ret_codes (c : Dev nD) (b : Fin 8) (s : Fin 2048) (n : Fin 9984) :
    Pipeline.afterTail₀ cfgs (dats m) 0 (V0 m) [hostOps1] c main_v4 (ix3 b s n) = Spec.code (Yrow m c b s) n := by
  rw [tail_codes, arr5, cast_codes]
  unfold G5
  have e1 : (⟨(2048 * b.val + s.val) / 2048, by omega⟩ : Fin 8) = b := Fin.ext (by show (2048 * b.val + s.val) / 2048 = b.val; omega)
  have e2 : (⟨(2048 * b.val + s.val) % 2048, by omega⟩ : Fin 2048) = s := Fin.ext (by show (2048 * b.val + s.val) % 2048 = s.val; omega)
  show Spec.code (Yrow m c ⟨(2048 * b.val + s.val) / 2048, _⟩ ⟨(2048 * b.val + s.val) % 2048, _⟩) n.val = _
  rw [e1, e2]

/-- The scales the run returns. -/
theorem ret_scales (c : Dev nD) (b : Fin 8) (s : Fin 2048) :
    Pipeline.afterTail₀ cfgs (dats m) 0 (V0 m) [hostOps1] c main_v5 (ix3 b s 0) = Spec.scale (Yrow m c b s) := by
  rw [tail_scales, arr6, cast_scales_back]
  rfl

end Cert.KernelIdeal.Own

end
-- ==== Proof.RefValue.lean ====
/- What the reference computes, entry by entry, over the extended reals. -/
module

public import proofs.«01_k».proof.Proof.Gen.ReferenceIdeal.Frame
public import proofs.«01_k».proof.Proof.Spec
public import Idealize.ShloMosaic.Lib.Pipeline.Value

@[expose] public section

set_option maxRecDepth 16384

noncomputable section

namespace Cert.ReferenceIdeal.Own

open Cert.ReferenceIdeal Cert.ReferenceIdeal.Gen Cert.Exponent Idealize.ShloMosaic Idealize.ShloMosaic.TcCoe Idealize.SL.Sem
open Idealize.ShloMosaic.Pointwise

/-- A selection on the conjunction of two comparisons, as a case distinction. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- The power of two at the ideal values. -/
theorem exp2_eq (x : EReal) : FloatOps.exp2 (F := Ideal) (φ := .f32) x = Ideal.exp2 x := rfl

/-- The word of one. -/
theorem ofBits_one' : Ideal.ofBits .f32 0x3F800000#32 = 1 := Cert.Exponent.ofBits_one.trans EReal.coe_one

/-- A row's `q`, for every row: its largest absolute value, over 448. -/
def qv (y : FVec Ideal S8x2048x9984 .f32) : FVec Ideal S8x2048x1 .f32 :=
  mulf (shapeCast S8x2048x1 (multiReduction .maximumf [2] S8x2048 (absf y) 0xFF800000#32 reduces_S8x2048x9984_S8x2048 (.inl rfl) rfl)
    shapeCasts_S8x2048_S8x2048x1) (broadcast S8x2048x1 (Scalar.ofBits .f32 0x3B124925#32))

/-- A row's exponent, for every row, out of its `q`. -/
def ev (q : FVec Ideal S8x2048x1 .f32) : FVec Ideal S8x2048x1 .f32 :=
  select (andi (cmpf .oge q (broadcast S8x2048x1 (Scalar.ofBits .f32 0x00800000#32)))
      (cmpf .olt q (broadcast S8x2048x1 (Scalar.ofBits .f32 0x7B800000#32))))
    (addf (floor (divf (log q) (log (broadcast S8x2048x1 (Scalar.ofBits .f32 0x40000000#32)))))
      (broadcast S8x2048x1 (Scalar.ofBits .f32 0x3F800000#32)))
    (broadcast S8x2048x1 (Scalar.ofBits .f32 0x00000000#32))

/-- The reshape of a vector of rows to a column, at an index. -/
theorem col_of (v : FVec Ideal S8x2048 .f32) (b : Fin 8) (s : Fin 2048) :
    shapeCast S8x2048x1 v shapeCasts_S8x2048_S8x2048x1 (ix3 b s 0) = v (ix2 b s) := by
  pointwise []

/-- The largest entry of a row, at an index. -/
theorem max_of (y : FVec Ideal S8x2048x9984 .f32) (b : Fin 8) (s : Fin 2048) :
    multiReduction .maximumf [2] S8x2048 y 0xFF800000#32 reduces_S8x2048x9984_S8x2048 (.inl rfl) rfl (ix2 b s)
      = Finset.fold max (Ideal.ofBits .f32 0xFF800000#32) (fun n : Fin 9984 => y (ix3 b s n)) Finset.univ := by
  pointwise []

/-- A row's `q`, at an index. -/
theorem q_of (y : FVec Ideal S8x2048x9984 .f32) (b : Fin 8) (s : Fin 2048) :
    qv y (ix3 b s 0)
      = Finset.fold max (Ideal.ofBits .f32 0xFF800000#32) (fun n : Fin 9984 => max (y (ix3 b s n)) (-(y (ix3 b s n)))) Finset.univ
          * Ideal.ofBits .f32 0x3B124925#32 := by
  have h : ∀ v : FVec Ideal S8x2048x1 .f32, mulf v (broadcast S8x2048x1 (Scalar.ofBits .f32 0x3B124925#32)) (ix3 b s 0)
      = v (ix3 b s 0) * Ideal.ofBits .f32 0x3B124925#32 := fun v => by pointwise []
  have ha : ∀ j, absf y j = max (y j) (-(y j)) := fun j => rfl
  unfold qv
  rw [h, col_of, max_of]
  simp only [ha]

/-- A row's exponent out of its `q`, at an index. -/
theorem ev_of (q : FVec Ideal S8x2048x1 .f32) (j : S8x2048x1.Idx) : ev q j = expo (q j) := by
  unfold expo
  rw [ofBits_one']
  pointwise [ev]
  rw [select_and]

/-- A vector of scales, at an index. -/
theorem scale_of (e : FVec Ideal S8x2048x1 .f32) (j : S8x2048x1.Idx) : Idealize.ShloMosaic.exp2 e j = Ideal.exp2 (e j) := rfl

/-- A row's codes out of its entries and its exponent. -/
theorem codes_of (y : FVec Ideal S8x2048x9984 .f32) (e : FVec Ideal S8x2048x1 .f32) (b : Fin 8) (s : Fin 2048) (n : Fin 9984) :
    k0_pay1 (F := Ideal) y e (Scalar.ofBits .f32 0x00000000#32) (ix3 b s n)
      = min (Ideal.ofBits .f32 0x43E00000#32)
          (max (Ideal.ofBits .f32 0xC3E00000#32) (y (ix3 b s n) * Ideal.exp2 (0 - e (ix3 b s 0)))) := by
  pointwise [k0_pay1]
  rw [exp2_eq]

section Payloads

variable (x0 : Vec Ideal S8x2048x2304 .fp8e4m3) (x1 : Vec Ideal S8x2048x1 .f32) (x2 : Vec Ideal S2304x9984 .fp8e4m3)
  (x3 : Vec Ideal S1x9984 .f32) (x4 : Vec Ideal S8x2048x9984 .bf16)

/-- The reference's unquantised result. -/
theorem y_apply (b : Fin 8) (s : Fin 2048) (n : Fin 9984) :
    k0_pay2 (F := Ideal) x0 x2 x1 x3 x4 (ix3 b s n) = Spec.Y x0 x1 x2 x3 x4 b s n := by
  rw [Spec.Y, dif_pos n.isLt]
  pointwise [k0_pay2]

/-- The reference's exponents are those of its unquantised result. -/
theorem pay3_eq : k0_pay3 (F := Ideal) x0 x2 x1 x3 x4 = ev (qv (k0_pay2 x0 x2 x1 x3 x4)) := by
  unfold k0_pay3
  generalize k0_pay2 x0 x2 x1 x3 x4 = y
  rfl

/-- The reference's exponent of a row. -/
theorem e_apply (b : Fin 8) (s : Fin 2048) :
    k0_pay3 (F := Ideal) x0 x2 x1 x3 x4 (ix3 b s 0) = expo (Spec.Q (Spec.Y x0 x1 x2 x3 x4 b s)) := by
  rw [pay3_eq, ev_of, q_of]
  simp only [y_apply]
  unfold Spec.Q
  exact congrArg expo rfl

/-- The reference's scale of a row. -/
theorem scale_apply (b : Fin 8) (s : Fin 2048) :
    k0_pay4 (F := Ideal) x0 x2 x1 x3 x4 (ix3 b s 0) = Spec.scale (Spec.Y x0 x1 x2 x3 x4 b s) := by
  have h := e_apply x0 x1 x2 x3 x4 b s
  unfold Spec.scale k0_pay4
  generalize k0_pay3 x0 x2 x1 x3 x4 = e at h ⊢
  rw [← h]
  exact scale_of e _

/-- The reference's codes. -/
theorem codes_apply (b : Fin 8) (s : Fin 2048) (n : Fin 9984) :
    k0_pay1 (F := Ideal) (k0_pay2 x0 x2 x1 x3 x4) (k0_pay3 x0 x2 x1 x3 x4) (Scalar.ofBits .f32 0x00000000#32) (ix3 b s n)
      = Spec.code (Spec.Y x0 x1 x2 x3 x4 b s) n := by
  rw [codes_of, e_apply, y_apply]
  rfl

end Payloads

end Cert.ReferenceIdeal.Own

end
-- ==== Proof.RefArrays.lean ====
/- The two arrays the reference writes, entry by entry, out of its five arguments. -/
module

public import proofs.«01_k».proof.Proof.RefValue
public import Idealize.ShloMosaic.Lib.Pipeline.ValueKit.Geometry

@[expose] public section

set_option maxRecDepth 16384

noncomputable section

namespace Cert.ReferenceIdeal.Own

open Cert.ReferenceIdeal Cert.ReferenceIdeal.Gen Cert.Exponent Idealize.ShloMosaic Idealize.ShloMosaic.TcCoe Idealize.SL.Sem
open Idealize.ShloMosaic.Pointwise

section Stored

variable (x0 : Vec Ideal S8x2048x2304 .fp8e4m3) (x1 : Vec Ideal S8x2048x1 .f32) (x2 : Vec Ideal S2304x9984 .fp8e4m3)
  (x3 : Vec Ideal S1x9984 .f32) (x4 : Vec Ideal S8x2048x9984 .bf16)

/-- The zero offset of rank 3. -/
theorem zeros3 : (![0, 0, 0] : Fin 3 → ℕ) = fun _ => 0 := by decide
/-- The zero offset of rank 2. -/
theorem zeros2 : (![0, 0] : Fin 2 → ℕ) = fun _ => 0 := by decide

/-- The codes the body stores. -/
theorem out5_apply (b : Fin 8) (s : Fin 2048) (n : Fin 9984) :
    out0_5 (F := Ideal) x0 x1 x2 x3 x4 (ix3 b s n) = Spec.code (Spec.Y x0 x1 x2 x3 x4 b s) n := by
  unfold out0_5
  have l0 : View.ld x0 r0_0 = x0 := View.ld_unit_zero zeros3 _ _
  have l1 : View.ld x1 r0_2 = x1 := View.ld_unit_zero zeros3 _ _
  have l2 : View.ld x2 r0_1 = x2 := View.ld_unit_zero zeros2 _ _
  have l3 : View.ld x3 r0_3 = x3 := View.ld_unit_zero zeros2 _ _
  have l4 : View.ld x4 r0_4 = x4 := View.ld_unit_zero zeros3 _ _
  rw [l0, l1, l2, l3, l4]
  have h := codes_apply x0 x1 x2 x3 x4 b s n
  generalize k0_pay1 (F := Ideal) (k0_pay2 x0 x2 x1 x3 x4) (k0_pay3 x0 x2 x1 x3 x4) (Scalar.ofBits .f32 0x00000000#32) = w at h ⊢
  have hc : View.canon [(⟨r0_4, w⟩ : View.Piece (Elt Ideal) S8x2048x9984 .fp8e4m3)] = w := View.canon_unit_zero zeros3 _ _
  rw [hc]
  exact h

/-- The scales the body stores. -/
theorem out6_apply (b : Fin 8) (s : Fin 2048) :
    out0_6 (F := Ideal) x0 x1 x2 x3 x4 (ix3 b s 0) = Spec.scale (Spec.Y x0 x1 x2 x3 x4 b s) := by
  unfold out0_6
  have l0 : View.ld x0 r0_0 = x0 := View.ld_unit_zero zeros3 _ _
  have l1 : View.ld x1 r0_2 = x1 := View.ld_unit_zero zeros3 _ _
  have l2 : View.ld x2 r0_1 = x2 := View.ld_unit_zero zeros2 _ _
  have l3 : View.ld x3 r0_3 = x3 := View.ld_unit_zero zeros2 _ _
  have l4 : View.ld x4 r0_4 = x4 := View.ld_unit_zero zeros3 _ _
  rw [l0, l1, l2, l3, l4]
  have h := scale_apply x0 x1 x2 x3 x4 b s
  generalize k0_pay4 (F := Ideal) x0 x2 x1 x3 x4 = w at h ⊢
  have hc : View.canon [(⟨r0_2, w⟩ : View.Piece (Elt Ideal) S8x2048x1 .f32)] = w := View.canon_unit_zero zeros3 _ _
  rw [hc]
  exact h

end Stored

variable (m : (ℓ : Loc nD τ sig) → Buf (Elt Ideal) ℓ)

/-! ## The blocks are the whole arrays -/

theorem zero0 : ∀ (t : Fin grid0.N) (a : Fin 3), win0_0.index t a = 0 := by decide +kernel
/-- The reference's window 1 is its whole array. -/
theorem zero1 : ∀ (t : Fin grid0.N) (a : Fin 3), win0_1.index t a = 0 := by decide +kernel
/-- The reference's window 2 is its whole array. -/
theorem zero2 : ∀ (t : Fin grid0.N) (a : Fin 2), win0_2.index t a = 0 := by decide +kernel
/-- The reference's window 3 is its whole array. -/
theorem zero3 : ∀ (t : Fin grid0.N) (a : Fin 2), win0_3.index t a = 0 := by decide +kernel
/-- The reference's window 4 is its whole array. -/
theorem zero4 : ∀ (t : Fin grid0.N) (a : Fin 3), win0_4.index t a = 0 := by decide +kernel
/-- The reference's window 5 is its whole array. -/
theorem zero5 : ∀ (t : Fin grid0.N) (a : Fin 3), win0_5.index t a = 0 := by decide +kernel
/-- The reference's window 6 is its whole array. -/
theorem zero6 : ∀ (t : Fin grid0.N) (a : Fin 3), win0_6.index t a = 0 := by decide +kernel

/-- What the reference reads of argument 0 is the whole argument. -/
theorem iblk0 (c : Dev nD) (t : Fin cfg0.N) : iblk m c 0 t = m ((c : Thread nD τ).loc main_arg0) := by
  funext j
  show V m c main_arg0 ((win0_0.rect t).emb j) = V m c main_arg0 j
  refine congrArg (V m c main_arg0) (funext fun a => Fin.ext ?_)
  exact win0_0.rect_emb_val_of_index_zero t a (zero0 t a) j

/-- What the reference reads of argument 1 is the whole argument. -/
theorem iblk1 (c : Dev nD) (t : Fin cfg0.N) : iblk m c 1 t = m ((c : Thread nD τ).loc main_arg1) := by
  funext j
  show V m c main_arg1 ((win0_1.rect t).emb j) = V m c main_arg1 j
  refine congrArg (V m c main_arg1) (funext fun a => Fin.ext ?_)
  exact win0_1.rect_emb_val_of_index_zero t a (zero1 t a) j

/-- What the reference reads of argument 2 is the whole argument. -/
theorem iblk2 (c : Dev nD) (t : Fin cfg0.N) : iblk m c 2 t = m ((c : Thread nD τ).loc main_arg2) := by
  funext j
  show V m c main_arg2 ((win0_2.rect t).emb j) = V m c main_arg2 j
  refine congrArg (V m c main_arg2) (funext fun a => Fin.ext ?_)
  exact win0_2.rect_emb_val_of_index_zero t a (zero2 t a) j

/-- What the reference reads of argument 3 is the whole argument. -/
theorem iblk3 (c : Dev nD) (t : Fin cfg0.N) : iblk m c 3 t = m ((c : Thread nD τ).loc main_arg3) := by
  funext j
  show V m c main_arg3 ((win0_3.rect t).emb j) = V m c main_arg3 j
  refine congrArg (V m c main_arg3) (funext fun a => Fin.ext ?_)
  exact win0_3.rect_emb_val_of_index_zero t a (zero3 t a) j

/-- What the reference reads of argument 4 is the whole argument. -/
theorem iblk4 (c : Dev nD) (t : Fin cfg0.N) : iblk m c 4 t = m ((c : Thread nD τ).loc main_arg4) := by
  funext j
  show V m c main_arg4 ((win0_4.rect t).emb j) = V m c main_arg4 j
  refine congrArg (V m c main_arg4) (funext fun a => Fin.ext ?_)
  exact win0_4.rect_emb_val_of_index_zero t a (zero4 t a) j

/-- Row `(b, s)` of the unquantised result, out of the arguments device `c` holds. -/
def Yrow (c : Dev nD) (b : Fin 8) (s : Fin 2048) : ℕ → EReal :=
  Spec.Y (m ((c : Thread nD τ).loc main_arg0)) (m ((c : Thread nD τ).loc main_arg1)) (m ((c : Thread nD τ).loc main_arg2))
    (m ((c : Thread nD τ).loc main_arg3)) (m ((c : Thread nD τ).loc main_arg4)) b s

/-- The reference's codes. -/
def R5 (c : Dev nD) (j : S8x2048x9984.Idx) : EReal := Spec.code (Yrow m c (j 0) (j 1)) (j 2).val

/-- The reference's scales. -/
def R6 (c : Dev nD) (j : S8x2048x1.Idx) : EReal := Spec.scale (Yrow m c (j 0) (j 1))

/-- The reference's array of codes after the run. -/
theorem arr5 (c : Dev nD) : (dats m 0 c).arrAt 5 cfg0.N = R5 m c := by
  refine (dats m 0 c).arrAt_eq_of_covers 5 _ (by decide +kernel) fun t hf y => ?_
  obtain ⟨b, s, n, rfl⟩ : ∃ (b : Fin 8) (s : Fin 2048) (n : Fin 9984), y = ix3 b s n := ⟨y 0, y 1, y 2, eq_ix3 y⟩
  show (dats m 0 c).after 5 t (ix3 b s n) = R5 m c ((win0_5.rect t).emb (ix3 b s n))
  have he : (win0_5.rect t).emb (ix3 b s n) = (ix3 b s n : S8x2048x9984.Idx) :=
    funext fun a => Fin.ext (win0_5.rect_emb_val_of_index_zero t a (zero5 t a) _)
  rw [after0_5, he, out5_apply, iblk0, iblk1, iblk2, iblk3, iblk4]
  rfl

/-- The reference's array of scales after the run. -/
theorem arr6 (c : Dev nD) : (dats m 0 c).arrAt 6 cfg0.N = R6 m c := by
  refine (dats m 0 c).arrAt_eq_of_covers 6 _ (by decide +kernel) fun t hf y => ?_
  obtain ⟨b, s, n, rfl⟩ : ∃ (b : Fin 8) (s : Fin 2048) (n : Fin 1), y = ix3 b s n := ⟨y 0, y 1, y 2, eq_ix3 y⟩
  obtain rfl : n = 0 := Subsingleton.elim _ _
  show (dats m 0 c).after 6 t (ix3 b s 0) = R6 m c ((win0_6.rect t).emb (ix3 b s 0))
  have he : (win0_6.rect t).emb (ix3 b s 0) = (ix3 b s 0 : S8x2048x1.Idx) :=
    funext fun a => Fin.ext (win0_6.rect_emb_val_of_index_zero t a (zero6 t a) _)
  rw [after0_6, he, out6_apply, iblk0, iblk1, iblk2, iblk3, iblk4]
  rfl

end Cert.ReferenceIdeal.Own

end
-- ==== Proof.Algebraic.lean ====
/- The kernel and the reference return the same codes and the same scales over the extended reals. -/
module

public import proofs.«01_k».proof.Defs
public import proofs.«01_k».proof.Proof.Arrays
public import proofs.«01_k».proof.Proof.RefArrays

@[expose] public section

noncomputable section

namespace Cert.KernelIdeal.Own

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- The codes the run returns, as one array. -/
def codes (c : Dev nD) (j : S8x2048x9984.Idx) : EReal := Spec.code (Yrow m c (j 0) (j 1)) (j 2).val

/-- The scales the run returns, as one array. -/
def scales (c : Dev nD) (j : S8x2048x1.Idx) : EReal := Spec.scale (Yrow m c (j 0) (j 1))

/-- The kernel's run: its two results, and its arguments unchanged. -/
theorem run_value : θ_run defs (onTc (τ := τ) (main (F := Ideal))) ⟨m, fun _ => 0, ρ⟩ (fun r => ∀ c : Dev nD,
      r.2.mem ((c.tc : Thread nD τ).loc main_v4) = codes m c
      ∧ r.2.mem ((c.tc : Thread nD τ).loc main_v5) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (by
        funext j
        obtain ⟨b, s, n, rfl⟩ : ∃ (b : Fin 8) (s : Fin 2048) (n : Fin 9984), j = ix3 b s n := ⟨j 0, j 1, j 2, eq_ix3 j⟩
        exact ret_codes m c b s n),
      ((h c).2 main_v5 (Pipeline.mem_restRefs_of main_v5 (by decide) (by decide))).trans (by
        funext j
        obtain ⟨b, s, n, rfl⟩ : ∃ (b : Fin 8) (s : Fin 2048) (n : Fin 1), j = ix3 b s n := ⟨j 0, j 1, j 2, eq_ix3 j⟩
        obtain rfl : n = 0 := Subsingleton.elim _ _
        exact ret_scales m c b s),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Own

namespace Cert.ReferenceIdeal.Own

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The reference's run: its two results, and its arguments unchanged. -/
theorem run_value : θ_run defs (onTc (τ := τ) (main (F := Ideal))) ⟨m, fun _ => 0, ρ⟩ (fun r => ∀ c : Dev nD,
      r.2.mem ((c.tc : Thread nD τ).loc main_v0_0) = R5 m c
      ∧ r.2.mem ((c.tc : Thread nD τ).loc main_v0_1) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (arr5 m c),
      ((h c).1 6).trans (arr6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.Own

namespace Cert

open Idealize.ShloMosaic Idealize.ShloMosaic.TcCoe Idealize.SL.Sem

/-- From memories that agree on the five arguments, the unquantised rows are the same. -/
theorem rows_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Own.Yrow m' c = KernelIdeal.Own.Yrow m c := by
  funext b s
  unfold ReferenceIdeal.Own.Yrow KernelIdeal.Own.Yrow
  rw [h0, h1, h2, h3, h4]

/-- THE VALUE CLAIM: the kernel's codes and scales are the reference's. -/
theorem algebraic : algebraic_KernelIdeal_ReferenceIdeal (hKernelIdeal := KernelIdeal.Gen.facts)
    (hReferenceIdeal := ReferenceIdeal.Gen.facts) := by
  intro m g m' g' _ hm
  refine ⟨fun c => KernelIdeal.Own.codes m c, fun c => KernelIdeal.Own.scales m c, KernelIdeal.Own.run_value m g, ?_⟩
  refine (θ_run _ _ _).mono (fun r h c => ?_) (ReferenceIdeal.Own.run_value m' g')
  obtain ⟨e0, e1, hargs⟩ := h c
  obtain ⟨h0, h1, h2, h3, h4⟩ := hm c
  have hy := rows_eq m m' c h0 h1 h2 h3 h4
  refine ⟨e0.trans ?_, e1.trans ?_, hargs⟩
  · funext j
    exact congrArg (fun y : Fin 8 → Fin 2048 → ℕ → EReal => Spec.code (y (j 0) (j 1)) (j 2).val) hy
  · funext j
    exact congrArg (fun y : Fin 8 → Fin 2048 → ℕ → EReal => Spec.scale (y (j 0) (j 1))) hy

end Cert

end
-- ==== Proof.lean ====
module

public import proofs.«01_k».proof.Defs
public import proofs.«01_k».proof.Proof.KernelFrame
public import proofs.«01_k».proof.Proof.IdealFrame.Frame
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims: the three programs run, leave their arguments unchanged and end quiescent; the idealized
    kernel is the kernel's own text; and its results are the reference's over the extended reals. -/
theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ,
  fun m ρ _ => Cert.ReferenceIdeal.Gen.frame m ρ, trivial, Cert.algebraic⟩

end Cert.Proof

end
